-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48_0) = v0 c
          ∧ r.2.mem ((c.tc : Thread Cert.ReferenceIdeal.nD Cert.ReferenceIdeal.τ).loc Cert.ReferenceIdeal.main_v48_1) = v1 c
          ∧ r.2.mem ((c.tc : Thread Cert.ReferenceIdeal.nD Cert.ReferenceIdeal.τ).loc Cert.ReferenceIdeal.main_v48_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S2x512x3584 : Shape := ⟨3, ![2, 512, 3584]⟩
abbrev S1792x18944 : Shape := ⟨2, ![1792, 18944]⟩
abbrev S112x18944 : Shape := ⟨2, ![112, 18944]⟩
abbrev S18944 : Shape := ⟨1, ![18944]⟩
abbrev S8 : Shape := ⟨1, ![8]⟩
abbrev S1x8x1 : Shape := ⟨3, ![1, 8, 1]⟩
abbrev S112x1x18944 : Shape := ⟨3, ![112, 1, 18944]⟩
abbrev S_ : Shape := ⟨0, ![]⟩
abbrev S112x8x18944 : Shape := ⟨3, ![112, 8, 18944]⟩

class Facts : Prop where
  bcast_S8_S1x8x1_1 : S8.BroadcastsInDim S1x8x1 (![1] : Fin 1 → Fin S1x8x1.rank)
  bcast_S112x18944_S112x1x18944_0_2 : S112x18944.BroadcastsInDim S112x1x18944 (![0, 2] : Fin 2 → Fin S112x1x18944.rank)
  bcast_S_S1x8x1 : S_.BroadcastsInDim S1x8x1 (![] : Fin 0 → Fin S1x8x1.rank)
  bcast_S112x1x18944_S112x8x18944_0_1_2 : S112x1x18944.BroadcastsInDim S112x8x18944 (![0, 1, 2] : Fin 3 → Fin S112x8x18944.rank)
  bcast_S1x8x1_S112x8x18944_0_1_2 : S1x8x1.BroadcastsInDim S112x8x18944 (![0, 1, 2] : Fin 3 → Fin S112x8x18944.rank)
  bcast_S_S112x8x18944 : S_.BroadcastsInDim S112x8x18944 (![] : Fin 0 → Fin S112x8x18944.rank)
  bitsLt_bf16_f32 : FTy.bits .bf16 < FTy.bits .f32
  bcast_S_S2x512x3584 : S_.BroadcastsInDim S2x512x3584 (![] : Fin 0 → Fin S2x512x3584.rank)

variable [Facts]

def fn_part1 {F : FTy → Type} [FloatOps F] (main_arg0 : FVec F S2x512x3584 .bf16) (main_v9 : IVec S112x8x18944 32) (main_v18 : IVec S112x8x18944 32) : IVec S112x8x18944 1 × IVec S2x512x3584 1 :=
  let main_v19 : IVec S112x8x18944 1 := cmpi .ne main_v9 main_v18
  let main_v20 : FVec F S2x512x3584 .f32 := (extf .f32 · bitsLt_bf16_f32) main_arg0
  let main_v21 : FVec F S2x512x3584 .f32 := Host.absf main_v20
  let main_cst : FVec F S_ .f32 := constant S_ .f32 0x7F7F0000#32
  let main_v22 : FVec F S2x512x3584 .f32 := broadcastInDim S2x512x3584 ![] bcast_S_S2x512x3584 main_cst
  let main_v23 : IVec S2x512x3584 1 := cmpf .ole main_v21 main_v22
  let main_cst_4 : FVec F S_ .f32 := constant S_ .f32 0x7F800000#32
  let main_v24 : FVec F S2x512x3584 .f32 := broadcastInDim S2x512x3584 ![] bcast_S_S2x512x3584 main_cst_4
  let main_v25 : IVec S2x512x3584 1 := cmpf .oeq main_v21 main_v24
  let main_v26 : IVec S2x512x3584 1 := ori main_v23 main_v25
  (main_v19, main_v26)

def fn {F : FTy → Type} [FloatOps F] (main_arg0 : FVec F S2x512x3584 .bf16) (main_arg1 : IVec S1792x18944 8) (main_arg2 : IVec S112x18944 32) (main_arg3 : FVec F S18944 .f32) : IVec S112x8x18944 1 × IVec S2x512x3584 1 :=
  let main_v0 : IVec S8 32 := iotaInDim S8 32 0
  let main_v1 : IVec S1x8x1 32 := broadcastInDim S1x8x1 ![1] bcast_S8_S1x8x1_1 main_v0
  let main_v2 : IVec S112x1x18944 32 := broadcastInDim S112x1x18944 ![0, 2] bcast_S112x18944_S112x1x18944_0_2 main_arg2
  let main_c : IVec S_ 32 := constantI S_ 32 4#32
  let main_v3 : IVec S1x8x1 32 := broadcastInDim S1x8x1 ![] bcast_S_S1x8x1 main_c
  let main_v4 : IVec S1x8x1 32 := muli main_v3 main_v1
  let main_v5 : IVec S112x8x18944 32 := broadcastInDim S112x8x18944 ![0, 1, 2] bcast_S112x1x18944_S112x8x18944_0_1_2 main_v2
  let main_v6 : IVec S112x8x18944 32 := broadcastInDim S112x8x18944 ![0, 1, 2] bcast_S1x8x1_S112x8x18944_0_1_2 main_v4
  let main_v7 : IVec S112x8x18944 32 := Host.shrsi main_v5 main_v6
  let main_c_0 : IVec S_ 32 := constantI S_ 32 3#32
  let main_v8 : IVec S112x8x18944 32 := broadcastInDim S112x8x18944 ![] bcast_S_S112x8x18944 main_c_0
  let main_v9 : IVec S112x8x18944 32 := andi main_v7 main_v8
  let main_c_1 : IVec S_ 32 := constantI S_ 32 4#32
  let main_v10 : IVec S1x8x1 32 := broadcastInDim S1x8x1 ![] bcast_S_S1x8x1 main_c_1
  let main_v11 : IVec S1x8x1 32 := muli main_v10 main_v1
  let main_c_2 : IVec S_ 32 := constantI S_ 32 2#32
  let main_v12 : IVec S1x8x1 32 := broadcastInDim S1x8x1 ![] bcast_S_S1x8x1 main_c_2
  let main_v13 : IVec S1x8x1 32 := addi main_v11 main_v12
  let main_v14 : IVec S112x8x18944 32 := broadcastInDim S112x8x18944 ![0, 1, 2] bcast_S112x1x18944_S112x8x18944_0_1_2 main_v2
  let main_v15 : IVec S112x8x18944 32 := broadcastInDim S112x8x18944 ![0, 1, 2] bcast_S1x8x1_S112x8x18944_0_1_2 main_v13
  let main_v16 : IVec S112x8x18944 32 := Host.shrsi main_v14 main_v15
  let main_c_3 : IVec S_ 32 := constantI S_ 32 3#32
  let main_v17 : IVec S112x8x18944 32 := broadcastInDim S112x8x18944 ![] bcast_S_S112x8x18944 main_c_3
  let main_v18 : IVec S112x8x18944 32 := andi main_v16 main_v17
  fn_part1 (F := F) main_arg0 main_v9 main_v18
-- ==== Kernel.lean ====
abbrev S2x512x3584 : Shape := ⟨3, ![2, 512, 3584]⟩
abbrev S1792x18944 : Shape := ⟨2, ![1792, 18944]⟩
abbrev S112x18944 : Shape := ⟨2, ![112, 18944]⟩
abbrev S18944 : Shape := ⟨1, ![18944]⟩
abbrev S1024x3584 : Shape := ⟨2, ![1024, 3584]⟩
abbrev S74x1x256 : Shape := ⟨3, ![74, 1, 256]⟩
abbrev S1024x18944 : Shape := ⟨2, ![1024, 18944]⟩
abbrev S1024x1 : Shape := ⟨2, ![1024, 1]⟩
abbrev S1792x128 : Shape := ⟨2, ![1792, 128]⟩
abbrev S112x128 : Shape := ⟨2, ![112, 128]⟩
abbrev S1x1x256 : Shape := ⟨3, ![1, 1, 256]⟩
abbrev S1024x256 : Shape := ⟨2, ![1024, 256]⟩
abbrev S2x896x128 : Shape := ⟨3, ![2, 896, 128]⟩
abbrev S1024x128 : Shape := ⟨2, ![1024, 128]⟩
abbrev S32x3584 : Shape := ⟨2, ![32, 3584]⟩
abbrev S32x128 : Shape := ⟨2, ![32, 128]⟩
abbrev S32 : Shape := ⟨1, ![32]⟩
abbrev S32x1 : Shape := ⟨2, ![32, 1]⟩
abbrev S448x128 : Shape := ⟨2, ![448, 128]⟩
abbrev S8x128 : Shape := ⟨2, ![8, 128]⟩
abbrev S8x4x128 : Shape := ⟨3, ![8, 4, 128]⟩
abbrev S8x1x128 : Shape := ⟨3, ![8, 1, 128]⟩
abbrev S1x896x128 : Shape := ⟨3, ![1, 896, 128]⟩
abbrev S896x128 : Shape := ⟨2, ![896, 128]⟩
abbrev S3584x128 : Shape := ⟨2, ![3584, 128]⟩
abbrev S3584x256 : Shape := ⟨2, ![3584, 256]⟩
abbrev S1x1x128 : Shape := ⟨3, ![1, 1, 128]⟩
abbrev S1x128 : Shape := ⟨2, ![1, 128]⟩

abbrev nBuf : Space → Nat
  | .hbm => 9
  | .vmem => 17
  | .smem => 0
  | _ => 0

abbrev bufTy : (tb : Table) → Fin (tcTables nBuf tb) → BufTy
  | .hbm, ⟨0, _⟩ => ⟨S2x512x3584, .bf16⟩
  | .hbm, ⟨1, _⟩ => ⟨S1792x18944, .i8⟩
  | .hbm, ⟨2, _⟩ => ⟨S112x18944, .i32⟩
  | .hbm, ⟨3, _⟩ => ⟨S18944, .f32⟩
  | .hbm, ⟨4, _⟩ => ⟨S1024x3584, .bf16⟩
  | .hbm, ⟨5, _⟩ => ⟨S74x1x256, .f32⟩
  | .hbm, ⟨6, _⟩ => ⟨S1024x18944, .bf16⟩
  | .hbm, ⟨7, _⟩ => ⟨S1024x3584, .fp8e4m3⟩
  | .hbm, ⟨8, _⟩ => ⟨S1024x1, .f32⟩
  | .local _ .vmem, ⟨0, _⟩ => ⟨S1024x3584, .bf16⟩
  | .local _ .vmem, ⟨1, _⟩ => ⟨S1792x128, .i8⟩
  | .local _ .vmem, ⟨2, _⟩ => ⟨S1792x128, .i8⟩
  | .local _ .vmem, ⟨3, _⟩ => ⟨S1792x128, .i8⟩
  | .local _ .vmem, ⟨4, _⟩ => ⟨S1792x128, .i8⟩
  | .local _ .vmem, ⟨5, _⟩ => ⟨S112x128, .i32⟩
  | .local _ .vmem, ⟨6, _⟩ => ⟨S112x128, .i32⟩
  | .local _ .vmem, ⟨7, _⟩ => ⟨S112x128, .i32⟩
  | .local _ .vmem, ⟨8, _⟩ => ⟨S112x128, .i32⟩
  | .local _ .vmem, ⟨9, _⟩ => ⟨S1x1x256, .f32⟩
  | .local _ .vmem, ⟨10, _⟩ => ⟨S1x1x256, .f32⟩
  | .local _ .vmem, ⟨11, _⟩ => ⟨S1024x256, .bf16⟩
  | .local _ .vmem, ⟨12, _⟩ => ⟨S1024x256, .bf16⟩
  | .local _ .vmem, ⟨13, _⟩ => ⟨S1024x3584, .fp8e4m3⟩
  | .local _ .vmem, ⟨14, _⟩ => ⟨S1024x1, .f32⟩
  | .local _ .vmem, ⟨15, _⟩ => ⟨S2x896x128, .i32⟩
  | .local _ .vmem, ⟨16, _⟩ => ⟨S1024x128, .f32⟩
  | _, _ => ⟨S2x512x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![74], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2853 : BitVec 32 := 0#32
  let c32_i32 : BitVec 32 := 32#32
  let v5887 : BitVec 32 := Scalar.addi c0_i32_2853 c32_i32
  let c1_i32_2854 : BitVec 32 := 1#32
  ⟨c0_i32_2853, v5887, c1_i32_2854⟩
def k0_mult1 (k0_t1 : Fin k0_t1_loop.trips) : BitVec 32 :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  v5888
def k0_off1 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v5890 : Index := Scalar.indexCast v5889
  let c0_2857 : Index := 0#32
  ![v5890.toNat, 0]
def k0_off2 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6057 : Index := Scalar.indexCast v5889
  let c0_2879 : Index := 0#32
  ![v6057.toNat, 0]
def k0_off3 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6061 : Index := Scalar.indexCast v5889
  let c0_2880 : Index := 0#32
  ![v6061.toNat, 0]
def k0_off4 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6076 : Index := Scalar.indexCast v5889
  let c0_2883 : Index := 0#32
  ![v6076.toNat, 0]
def k0_off5 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6086 : Index := Scalar.indexCast v5889
  let c128_2886 : Index := 128#32
  ![v6086.toNat, 128]
def k0_off6 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6096 : Index := Scalar.indexCast v5889
  let c256_2889 : Index := 256#32
  ![v6096.toNat, 256]
def k0_off7 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6106 : Index := Scalar.indexCast v5889
  let c384_2892 : Index := 384#32
  ![v6106.toNat, 384]
def k0_off8 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6116 : Index := Scalar.indexCast v5889
  let c512_2895 : Index := 512#32
  ![v6116.toNat, 512]
def k0_off9 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6126 : Index := Scalar.indexCast v5889
  let c640_2898 : Index := 640#32
  ![v6126.toNat, 640]
def k0_off10 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6136 : Index := Scalar.indexCast v5889
  let c768_2901 : Index := 768#32
  ![v6136.toNat, 768]
def k0_off11 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6146 : Index := Scalar.indexCast v5889
  let c896 : Index := 896#32
  ![v6146.toNat, 896]
def k0_off12 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6156 : Index := Scalar.indexCast v5889
  let c1024 : Index := 1024#32
  ![v6156.toNat, 1024]
def k0_off13 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6166 : Index := Scalar.indexCast v5889
  let c1152 : Index := 1152#32
  ![v6166.toNat, 1152]
def k0_off14 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6176 : Index := Scalar.indexCast v5889
  let c1280 : Index := 1280#32
  ![v6176.toNat, 1280]
def k0_off15 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6186 : Index := Scalar.indexCast v5889
  let c1408 : Index := 1408#32
  ![v6186.toNat, 1408]
def k0_off16 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6196 : Index := Scalar.indexCast v5889
  let c1536 : Index := 1536#32
  ![v6196.toNat, 1536]
def k0_off17 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6206 : Index := Scalar.indexCast v5889
  let c1664 : Index := 1664#32
  ![v6206.toNat, 1664]
def k0_off18 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6216 : Index := Scalar.indexCast v5889
  let c1792 : Index := 1792#32
  ![v6216.toNat, 1792]
def k0_off19 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6226 : Index := Scalar.indexCast v5889
  let c1920 : Index := 1920#32
  ![v6226.toNat, 1920]
def k0_off20 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6236 : Index := Scalar.indexCast v5889
  let c2048 : Index := 2048#32
  ![v6236.toNat, 2048]
def k0_off21 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6246 : Index := Scalar.indexCast v5889
  let c2176 : Index := 2176#32
  ![v6246.toNat, 2176]
def k0_off22 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6256 : Index := Scalar.indexCast v5889
  let c2304 : Index := 2304#32
  ![v6256.toNat, 2304]
def k0_off23 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6266 : Index := Scalar.indexCast v5889
  let c2432 : Index := 2432#32
  ![v6266.toNat, 2432]
def k0_off24 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6276 : Index := Scalar.indexCast v5889
  let c2560 : Index := 2560#32
  ![v6276.toNat, 2560]
def k0_off25 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6286 : Index := Scalar.indexCast v5889
  let c2688 : Index := 2688#32
  ![v6286.toNat, 2688]
def k0_off26 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6296 : Index := Scalar.indexCast v5889
  let c2816 : Index := 2816#32
  ![v6296.toNat, 2816]
def k0_off27 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6306 : Index := Scalar.indexCast v5889
  let c2944 : Index := 2944#32
  ![v6306.toNat, 2944]
def k0_off28 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6316 : Index := Scalar.indexCast v5889
  let c3072 : Index := 3072#32
  ![v6316.toNat, 3072]
def k0_off29 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6326 : Index := Scalar.indexCast v5889
  let c3200 : Index := 3200#32
  ![v6326.toNat, 3200]
def k0_off30 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6336 : Index := Scalar.indexCast v5889
  let c3328 : Index := 3328#32
  ![v6336.toNat, 3328]
def k0_off31 (k0_t1 : Fin k0_t1_loop.trips) : Fin 2 → Nat :=
  let c0_i32_2853 : BitVec 32 := 0#32
  let c1_i32_2854 : BitVec 32 := 1#32
  let arg12 : BitVec 32 := Scf.iv c0_i32_2853 c1_i32_2854 k0_t1
  let c32_i32_2856 : BitVec 32 := 32#32
  let v5888 : BitVec 32 := Scalar.muli arg12 c32_i32_2856
  let v5889 : BitVec 32 := v5888
  let v6346 : Index := Scalar.indexCast v5889
  let c3456 : Index := 3456#32
  ![v6346.toNat, 3456]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1792x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S112x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S112x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2x512x3584 : Shape := ⟨3, ![2, 512, 3584]⟩
abbrev S1792x18944 : Shape := ⟨2, ![1792, 18944]⟩
abbrev S112x18944 : Shape := ⟨2, ![112, 18944]⟩
abbrev S18944 : Shape := ⟨1, ![18944]⟩
abbrev S1024x3584 : Shape := ⟨2, ![1024, 3584]⟩
abbrev S_ : Shape := ⟨0, ![]⟩
abbrev S1024 : Shape := ⟨1, ![1024]⟩
abbrev S1024x1 : Shape := ⟨2, ![1024, 1]⟩
abbrev S252 : Shape := ⟨1, ![252]⟩
abbrev S1x252 : Shape := ⟨2, ![1, 252]⟩
abbrev S1024x252 : Shape := ⟨2, ![1024, 252]⟩
abbrev S8 : Shape := ⟨1, ![8]⟩
abbrev S1x8x1 : Shape := ⟨3, ![1, 8, 1]⟩
abbrev S112x1x18944 : Shape := ⟨3, ![112, 1, 18944]⟩
abbrev S112x8x18944 : Shape := ⟨3, ![112, 8, 18944]⟩
abbrev S1x18944 : Shape := ⟨2, ![1, 18944]⟩
abbrev S1024x18944 : Shape := ⟨2, ![1024, 18944]⟩
abbrev S112x8x2x18944 : Shape := ⟨4, ![112, 8, 2, 18944]⟩
abbrev S112x8x1x18944 : Shape := ⟨4, ![112, 8, 1, 18944]⟩
abbrev S1x1x4x1 : Shape := ⟨4, ![1, 1, 4, 1]⟩
abbrev S112x8x4x18944 : Shape := ⟨4, ![112, 8, 4, 18944]⟩
abbrev S3584x18944 : Shape := ⟨2, ![3584, 18944]⟩

abbrev nBuf : Space → Nat
  | .hbm => 81
  | .vmem => 9
  | .smem => 0
  | _ => 0

abbrev bufTy : (tb : Table) → Fin (tcTables nBuf tb) → BufTy
  | .hbm, ⟨0, _⟩ => ⟨S2x512x3584, .bf16⟩
  | .hbm, ⟨1, _⟩ => ⟨S1792x18944, .i8⟩
  | .hbm, ⟨2, _⟩ => ⟨S112x18944, .i32⟩
  | .hbm, ⟨3, _⟩ => ⟨S18944, .f32⟩
  | .hbm, ⟨4, _⟩ => ⟨S1024x3584, .bf16⟩
  | .hbm, ⟨5, _⟩ => ⟨S1024x3584, .f32⟩
  | .hbm, ⟨6, _⟩ => ⟨S1024x3584, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S252, .f32⟩
  | .hbm, ⟨14, _⟩ => ⟨S_, .f32⟩
  | .hbm, ⟨15, _⟩ => ⟨S252, .f32⟩
  | .hbm, ⟨16, _⟩ => ⟨S252, .f32⟩
  | .hbm, ⟨17, _⟩ => ⟨S_, .f32⟩
  | .hbm, ⟨18, _⟩ => ⟨S252, .f32⟩
  | .hbm, ⟨19, _⟩ => ⟨S252, .f32⟩
  | .hbm, ⟨20, _⟩ => ⟨S1x252, .f32⟩
  | .hbm, ⟨21, _⟩ => ⟨S1024x252, .f32⟩
  | .hbm, ⟨22, _⟩ => ⟨S1024x252, .f32⟩
  | .hbm, ⟨23, _⟩ => ⟨S1024x252, .i1⟩
  | .hbm, ⟨24, _⟩ => ⟨S_, .f32⟩
  | .hbm, ⟨25, _⟩ => ⟨S_, .f32⟩
  | .hbm, ⟨26, _⟩ => ⟨S1024x252, .f32⟩
  | .hbm, ⟨27, _⟩ => ⟨S1024x252, .f32⟩
  | .hbm, ⟨28, _⟩ => ⟨S1024x252, .f32⟩
  | .hbm, ⟨29, _⟩ => ⟨S_, .f32⟩
  | .hbm, ⟨30, _⟩ => ⟨S1024, .f32⟩
  | .hbm, ⟨31, _⟩ => ⟨S1024x1, .f32⟩
  | .hbm, ⟨32, _⟩ => ⟨S_, .f32⟩
  | .hbm, ⟨33, _⟩ => ⟨S1024x1, .f32⟩
  | .hbm, ⟨34, _⟩ => ⟨S1024x1, .i1⟩
  | .hbm, ⟨35, _⟩ => ⟨S_, .f32⟩
  | .hbm, ⟨36, _⟩ => ⟨S1024x1, .f32⟩
  | .hbm, ⟨37, _⟩ => ⟨S1024x1, .i1⟩
  | .hbm, ⟨38, _⟩ => ⟨S1024x1, .i1⟩
  | .hbm, ⟨39, _⟩ => ⟨S_, .f32⟩
  | .hbm, ⟨40, _⟩ => ⟨S_, .f32⟩
  | .hbm, ⟨41, _⟩ => ⟨S1024x1, .f32⟩
  | .hbm, ⟨42, _⟩ => ⟨S1024x1, .f32⟩
  | .hbm, ⟨43, _⟩ => ⟨S1024x3584, .f32⟩
  | .hbm, ⟨44, _⟩ => ⟨S1024x3584, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1024x3584, .f32⟩
  | .hbm, ⟨49, _⟩ => ⟨S1024x3584, .f32⟩
  | .hbm, ⟨50, _⟩ => ⟨S_, .f32⟩
  | .hbm, ⟨51, _⟩ => ⟨S1024x3584, .f32⟩
  | .hbm, ⟨52, _⟩ => ⟨S1024x3584, .f32⟩
  | .hbm, ⟨53, _⟩ => ⟨S8, .i32⟩
  | .hbm, ⟨54, _⟩ => ⟨S1x8x1, .i32⟩
  | .hbm, ⟨55, _⟩ => ⟨S112x1x18944, .i32⟩
  | .hbm, ⟨56, _⟩ => ⟨S_, .i32⟩
  | .hbm, ⟨57, _⟩ => ⟨S1x8x1, .i32⟩
  | .hbm, ⟨58, _⟩ => ⟨S1x8x1, .i32⟩
  | .hbm, ⟨59, _⟩ => ⟨S112x8x18944, .i32⟩
  | .hbm, ⟨60, _⟩ => ⟨S112x8x18944, .i32⟩
  | .hbm, ⟨61, _⟩ => ⟨S112x8x18944, .i32⟩
  | .hbm, ⟨62, _⟩ => ⟨S_, .i32⟩
  | .hbm, ⟨63, _⟩ => ⟨S112x8x18944, .i32⟩
  | .hbm, ⟨64, _⟩ => ⟨S112x8x18944, .i32⟩
  | .hbm, ⟨65, _⟩ => ⟨S_, .i32⟩
  | .hbm, ⟨66, _⟩ => ⟨S1x8x1, .i32⟩
  | .hbm, ⟨67, _⟩ => ⟨S1x8x1, .i32⟩
  | .hbm, ⟨68, _⟩ => ⟨S_, .i32⟩
  | .hbm, ⟨69, _⟩ => ⟨S1x8x1, .i32⟩
  | .hbm, ⟨70, _⟩ => ⟨S1x8x1, .i32⟩
  | .hbm, ⟨71, _⟩ => ⟨S112x8x18944, .i32⟩
  | .hbm, ⟨72, _⟩ => ⟨S112x8x18944, .i32⟩
  | .hbm, ⟨73, _⟩ => ⟨S112x8x18944, .i32⟩
  | .hbm, ⟨74, _⟩ => ⟨S_, .i32⟩
  | .hbm, ⟨75, _⟩ => ⟨S112x8x18944, .i32⟩
  | .hbm, ⟨76, _⟩ => ⟨S112x8x18944, .i32⟩
  | .hbm, ⟨77, _⟩ => ⟨S1x18944, .f32⟩
  | .hbm, ⟨78, _⟩ => ⟨S1024x18944, .bf16⟩
  | .hbm, ⟨79, _⟩ => ⟨S1024x3584, .fp8e4m3⟩
  | .hbm, ⟨80, _⟩ => ⟨S1024x1, .f32⟩
  | .local _ .vmem, ⟨0, _⟩ => ⟨S1024x3584, .f32⟩
  | .local _ .vmem, ⟨1, _⟩ => ⟨S1024x1, .f32⟩
  | .local _ .vmem, ⟨2, _⟩ => ⟨S1792x18944, .i8⟩
  | .local _ .vmem, ⟨3, _⟩ => ⟨S112x8x18944, .i32⟩
  | .local _ .vmem, ⟨4, _⟩ => ⟨S112x8x18944, .i32⟩
  | .local _ .vmem, ⟨5, _⟩ => ⟨S1x18944, .f32⟩
  | .local _ .vmem, ⟨6, _⟩ => ⟨S1024x18944, .bf16⟩
  | .local _ .vmem, ⟨7, _⟩ => ⟨S1024x3584, .fp8e4m3⟩
  | .local _ .vmem, ⟨8, _⟩ => ⟨S1024x1, .f32⟩
  | _, _ => ⟨S2x512x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_cst_9 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_10 : Ref sig .tc := ⟨.hbm, 62, rfl⟩
abbrev main_v36 : Ref sig .tc := ⟨.hbm, 63, rfl⟩
abbrev main_v37 : Ref sig .tc := ⟨.hbm, 64, rfl⟩
abbrev main_c_11 : Ref sig .tc := ⟨.hbm, 65, rfl⟩
abbrev main_v38 : Ref sig .tc := ⟨.hbm, 66, rfl⟩
abbrev main_v39 : Ref sig .tc := ⟨.hbm, 67, rfl⟩
abbrev main_c_12 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_13 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48_0 : Ref sig .tc := ⟨.hbm, 78, rfl⟩
abbrev main_v48_1 : Ref sig .tc := ⟨.hbm, 79, rfl⟩
abbrev main_v48_2 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1024x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x18944 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112x8x18944 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S112x8x18944 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x18944 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x18944 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KRuns.lean ====
/- The branch of the kernel body at a grid point, the staging memrefs of a point, and the scratch memrefs. -/
module

public import proofs.«01_k».proof.Proof.Gen.KernelIdeal.Frame
public import proofs.«01_k».proof.Proof.Gen.KernelIdeal.Loops
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 74 = 0 :=
  (fun t => by
    have ht : t.val < 74 := Nat.lt_of_lt_of_eq t.isLt N_0
    have e0 : (grid0.coords t 0).val = t.val / 1 % 74 := Pipeline.Grid.coords_val t 0 (by decide) rfl
    simp only [cond0_0, k0_cond1, e0]
    word_cmp
   : ∀ t : Fin grid0.N, cond0_0 (grid0.coords t) ↔ t.val % 74 = 0)

/-! ## The kernel body on any staging memrefs: a subtype the run finds -/

/-- One staging buffer of output window 6, through which its contents are stated (`View.read_writes_of_cover`: the
    choice does not matter). -/
abbrev VO0_6 : View sig .tc .vmem S1024x256 .bf16 := (Memref.whole cc0_stg6_0 : Memref sig .tc .vmem S1024x256 .bf16).view
/-- One staging buffer of output window 7, through which its contents are stated (`View.read_writes_of_cover`: the
    choice does not matter). -/
abbrev VO0_7 : View sig .tc .vmem S1024x3584 .fp8e4m3 := (Memref.whole cc0_stg7_0 : Memref sig .tc .vmem S1024x3584 .fp8e4m3).view
/-- One staging buffer of output window 8, through which its contents are stated (`View.read_writes_of_cover`: the
    choice does not matter). -/
abbrev VO0_8 : View sig .tc .vmem S1024x1 .f32 := (Memref.whole cc0_stg8_0 : Memref sig .tc .vmem S1024x1 .f32).view
/-- Each window's current staging memref at point `t`, spelled as the pipeline passes it (`bodyAt0`), and its wholeness. -/
abbrev ms0_0 (t : Fin cfg0.N) : Memref sig .tc .vmem S1024x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1792x128 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x128 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S112x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S112x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x3584 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2x896x128 .i32 := Memref.whole cc0_scratch0
abbrev scM0_1 : Memref sig .tc .vmem S1024x128 .f32 := Memref.whole cc0_scratch1
/-- The scratch `arg11` the kernel carries between points, as a view: what it holds is stated through it. -/
abbrev VS0_1 : View sig .tc .vmem S1024x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KRunA.lean ====
/- The kernel body run at point 0, where the quantiser runs: the pieces each buffer ends with. -/
module

public import proofs.«01_k».proof.Proof.KRuns

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 6204000 in set_option sl_exec.squeezeSlice true in set_option sl_exec.stridedRows true in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : cond0_0 i)
    (x0 : Vec F S1024x3584 .bf16) (x1 : Vec F S1792x128 .i8) (x2 : Vec F S1792x128 .i8) (x3 : Vec F S112x128 .i32) (x4 : Vec F S112x128 .i32) (x5 : Vec F S1x1x256 .f32) :
    Σ' (L6 : List (View.Piece (Elt F) S1024x256 .bf16)), Σ' (L7 : List (View.Piece (Elt F) S1024x3584 .fp8e4m3)), Σ' (L8 : List (View.Piece (Elt F) S1024x1 .f32)), { LS1 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ d, owns (c : Thread nD τ) arg10 fullShare d) ∗ (∃ f, arg11.view.loc (c : Thread nD τ) ↦[arg11.view.set]{fullShare} arg11.view.writes (Elt F) f LS1)) -∗ K ⟨⟩))
          ⊢ wp frame (wpE (defs₀ (F := F)) Variants.none c none) E (cc0_sparse24_fp8 i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_sparse24_fp8_eq_skeleton]; unfold cc0_sparse24_fp8_skel
    simp only [k0_part162_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part163_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part164_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    have hrd0 : ∀ (𝒱 : Variants) (c : Dev nD) (bd : Option 𝒱.V) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (k0_h1 : k0_cond1 i = 1#1) (X_arg1 : BufTy.Contents (Elt F) arg1.view.ty) (hrdF : BufTy.Contents (Elt F) arg8.view.ty) (hrdB : LoadRect S1024x3584), arg8.view.readAt (Elt F) hrdB (arg8.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 k0_h1 X_arg1 (Scf.trips k0_t1_loop.lb k0_t1_loop.ub k0_t1_loop.st)).1) = arg8.view.readCov (pb_k0_t1 (F := F) 𝒱 c bd i arg1 harg1 arg2 harg2 arg3 harg3 arg4 harg4 arg5 harg5 arg6 harg6 arg7 harg7 arg8 harg8 arg9 harg9 arg10 harg10 arg11 harg11 k0_h1 X_arg1 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 arg10 harg10 arg11 harg11 k0_h1 X_arg1 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 k0_h1 X_arg1 (Scf.trips k0_t1_loop.lb k0_t1_loop.ub k0_t1_loop.st)).1 S32x128.size (by sl_kernel_rfl) (hrdB.idx hrdJ))
    have hrd1 : ∀ (𝒱 : Variants) (c : Dev nD) (bd : Option 𝒱.V) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (k0_h1 : k0_cond1 i = 1#1) (X_arg1 : BufTy.Contents (Elt F) arg1.view.ty) (hrdF : BufTy.Contents (Elt F) arg9.view.ty) (hrdB : LoadRect S1024x1), arg9.view.readAt (Elt F) hrdB (arg9.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 k0_h1 X_arg1 (Scf.trips k0_t1_loop.lb k0_t1_loop.ub k0_t1_loop.st)).2.1) = arg9.view.readCov (pb_k0_t1 (F := F) 𝒱 c bd i arg1 harg1 arg2 harg2 arg3 harg3 arg4 harg4 arg5 harg5 arg6 harg6 arg7 harg7 arg8 harg8 arg9 harg9 arg10 harg10 arg11 harg11 k0_h1 X_arg1 (Scf.trips k0_t1_loop.lb k0_t1_loop.ub k0_t1_loop.st)).2.1 hrdB := fun 𝒱 c bd i arg1 harg1 arg2 harg2 arg3 harg3 arg4 harg4 arg5 harg5 arg6 harg6 arg7 harg7 arg8 harg8 arg9 harg9 arg10 harg10 arg11 harg11 k0_h1 X_arg1 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 k0_h1 X_arg1 (Scf.trips k0_t1_loop.lb k0_t1_loop.ub k0_t1_loop.st)).2.1 S32x1.size (by sl_kernel_rfl) (hrdB.idx hrdJ))
    have hrd2 : ∀ (𝒱 : Variants) (c : Dev nD) (bd : Option 𝒱.V) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (k0_h1 : k0_cond1 i = 1#1) (X_arg1 : BufTy.Contents (Elt F) arg1.view.ty) (hrdF : BufTy.Contents (Elt F) arg11.view.ty) (hrdB : LoadRect S1024x128), arg11.view.readAt (Elt F) hrdB (arg11.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 k0_h1 X_arg1 (Scf.trips k0_t1_loop.lb k0_t1_loop.ub k0_t1_loop.st)).2.2) = arg11.view.readCov (pb_k0_t1 (F := F) 𝒱 c bd i arg1 harg1 arg2 harg2 arg3 harg3 arg4 harg4 arg5 harg5 arg6 harg6 arg7 harg7 arg8 harg8 arg9 harg9 arg10 harg10 arg11 harg11 k0_h1 X_arg1 (Scf.trips k0_t1_loop.lb k0_t1_loop.ub k0_t1_loop.st)).2.2 hrdB := fun 𝒱 c bd i arg1 harg1 arg2 harg2 arg3 harg3 arg4 harg4 arg5 harg5 arg6 harg6 arg7 harg7 arg8 harg8 arg9 harg9 arg10 harg10 arg11 harg11 k0_h1 X_arg1 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 k0_h1 X_arg1 (Scf.trips k0_t1_loop.lb k0_t1_loop.ub k0_t1_loop.st)).2.2 S32x128.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]
    · iexists _, _; isplitr; swap; · iexact HS0
      ipureintro; rfl
    iexists _; iexact HS1

end Cert.KernelIdeal.Hand

end
-- ==== Proof.KRunB.lean ====
/- The kernel body run at the other points: the pieces the output block ends with, everything else kept. -/
module

public import proofs.«01_k».proof.Proof.KRunA

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6120000 in set_option sl_exec.squeezeSlice true in set_option sl_exec.stridedRows true in
/-- What the body's stores leave in each output's staging memref, as pieces (last first) IN CASE B (`scf.if` 0 not taken: points 1, 2, … 73: 73 of 74), WITH the
    proof that on whole staging memrefs — the inputs' at their contents, the outputs it reads before covering (7, 8) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : ¬cond0_0 i)
    (x0 : Vec F S1024x3584 .bf16) (x1 : Vec F S1792x128 .i8) (x2 : Vec F S1792x128 .i8) (x3 : Vec F S112x128 .i32) (x4 : Vec F S112x128 .i32) (x5 : Vec F S1x1x256 .f32) (xo7 : Vec F S1024x3584 .fp8e4m3) (xo8 : Vec F S1024x1 .f32) (xs1 : Vec F S1024x128 .f32) :
    { L6 : List (View.Piece (Elt F) S1024x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8 ∗ (∃ d, owns (c : Thread nD τ) arg10 fullShare d) ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xo7 ∗ owns (c : Thread nD τ) arg9 fullShare xo8 ∗ (∃ d, owns (c : Thread nD τ) arg10 fullShare d) ∗ owns (c : Thread nD τ) arg11 fullShare xs1) -∗ K ⟨⟩))
          ⊢ wp frame (wpE (defs₀ (F := F)) Variants.none c none) E (cc0_sparse24_fp8 i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0_sparse24_fp8_eq_skeleton]; unfold cc0_sparse24_fp8_skel
    simp only [k0_part162_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part163_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part164_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg11.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]
    · iexists _, _; isplitr; swap; · iexact HS0
      ipureintro; rfl
    iexists _; isplitr; · ipureintro; exact harg11.read_unread _
    iexact HS1

end Cert.KernelIdeal.Hand

end
-- ==== Proof.KFrame.lean ====
/- What the body leaves at each grid point, the pipeline's proof data, the body obligation, and the frame of the program. -/
module

public import proofs.«01_k».proof.Proof.KRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (2 stores of `S1024x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : cond0_0 i)
    (x0 : Vec F S1024x3584 .bf16) (x1 : Vec F S1792x128 .i8) (x2 : Vec F S1792x128 .i8) (x3 : Vec F S112x128 .i32) (x4 : Vec F S112x128 .i32) (x5 : Vec F S1x1x256 .f32) (y : S1024x256.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4 x5).1 S1024x128.size (by sl_kernel_rfl) y

/-- What case A leaves in output 6's staging buffer: its pieces read back over junk. -/
def out0_A_6 (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : cond0_0 i)
    (x0 : Vec F S1024x3584 .bf16) (x1 : Vec F S1792x128 .i8) (x2 : Vec F S1792x128 .i8) (x3 : Vec F S112x128 .i32) (x4 : Vec F S112x128 .i32) (x5 : Vec F S1x1x256 .f32) : Vec F S1024x256 .bf16 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 x0 x1 x2 x3 x4 x5).1)

/-- Case A's pieces for output 7 are of SEVERAL sizes (897 stores of `S1024x3584`, `S32x128`): cut into blocks of `![32, 128]` they tile its block (checked by the kernel's evaluation: Lib/Ring.lean `Piece.tiledBy`), so they cover it. -/
theorem cover0_A_7 (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : cond0_0 i)
    (x0 : Vec F S1024x3584 .bf16) (x1 : Vec F S1792x128 .i8) (x2 : Vec F S1792x128 .i8) (x3 : Vec F S112x128 .i32) (x4 : Vec F S112x128 .i32) (x5 : Vec F S1x1x256 .f32) (y : S1024x3584.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5).2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 hc0 x0 x1 x2 x3 x4 x5).2.1 ![32, 128] (by sl_kernel_rfl) y

/-- What case A leaves in output 7's staging buffer: its pieces read back over junk. -/
def out0_A_7 (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : cond0_0 i)
    (x0 : Vec F S1024x3584 .bf16) (x1 : Vec F S1792x128 .i8) (x2 : Vec F S1792x128 .i8) (x3 : Vec F S112x128 .i32) (x4 : Vec F S112x128 .i32) (x5 : Vec F S1x1x256 .f32) : Vec F S1024x3584 .fp8e4m3 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc0 x0 x1 x2 x3 x4 x5).2.1)

/-- Case A's pieces for output 8 are of one size (32 stores of `S32x1`): cut into blocks of `![32, 1]` they tile its block (checked by the kernel's evaluation: Lib/Ring.lean `Piece.tiledBy`), so they cover it. -/
theorem cover0_A_8 (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : cond0_0 i)
    (x0 : Vec F S1024x3584 .bf16) (x1 : Vec F S1792x128 .i8) (x2 : Vec F S1792x128 .i8) (x3 : Vec F S112x128 .i32) (x4 : Vec F S112x128 .i32) (x5 : Vec F S1x1x256 .f32) (y : S1024x1.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.1 ![32, 1] (by sl_kernel_rfl) y

/-- What case A leaves in output 8's staging buffer: its pieces read back over junk. -/
def out0_A_8 (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : cond0_0 i)
    (x0 : Vec F S1024x3584 .bf16) (x1 : Vec F S1792x128 .i8) (x2 : Vec F S1792x128 .i8) (x3 : Vec F S112x128 .i32) (x4 : Vec F S112x128 .i32) (x5 : Vec F S1x1x256 .f32) : Vec F S1024x1 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.1)

/-- Case A's pieces for scratch `arg11`, which the kernel carries between points, cover it: 32 pieces of `S32x128` tiling it (Lib/Ring.lean `Piece.tiledL`). -/
theorem scover0_A_1 (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : cond0_0 i)
    (x0 : Vec F S1024x3584 .bf16) (x1 : Vec F S1792x128 .i8) (x2 : Vec F S1792x128 .i8) (x3 : Vec F S112x128 .i32) (x4 : Vec F S112x128 .i32) (x5 : Vec F S1x1x256 .f32) (y : S1024x128.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.2.1 S32x128.size (by sl_kernel_rfl) y

/-- What case A leaves in scratch `arg11`: its pieces read back over junk. -/
def sout0_A_1 (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : cond0_0 i)
    (x0 : Vec F S1024x3584 .bf16) (x1 : Vec F S1792x128 .i8) (x2 : Vec F S1792x128 .i8) (x3 : Vec F S112x128 .i32) (x4 : Vec F S112x128 .i32) (x5 : Vec F S1x1x256 .f32) : Vec F S1024x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.2.1)

/-- Case B's pieces for output 6 tile its block (2 stores of `S1024x128`, checked by the kernel's evaluation: Lib/Ring.lean `Piece.tiledL`, linear in the pieces, through a loop's `@[irreducible]` trip theorem too), so they cover it. -/
theorem cover0_B_6 (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : ¬cond0_0 i)
    (x0 : Vec F S1024x3584 .bf16) (x1 : Vec F S1792x128 .i8) (x2 : Vec F S1792x128 .i8) (x3 : Vec F S112x128 .i32) (x4 : Vec F S112x128 .i32) (x5 : Vec F S1x1x256 .f32) (xo7 : Vec F S1024x3584 .fp8e4m3) (xo8 : Vec F S1024x1 .f32) (xs1 : Vec F S1024x128 .f32) (y : S1024x256.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 x3 x4 x5 xo7 xo8 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 x3 x4 x5 xo7 xo8 xs1).1 S1024x128.size (by sl_kernel_rfl) y

/-- What case B leaves in output 6's staging buffer: its pieces read back over junk. -/
def out0_B_6 (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : ¬cond0_0 i)
    (x0 : Vec F S1024x3584 .bf16) (x1 : Vec F S1792x128 .i8) (x2 : Vec F S1792x128 .i8) (x3 : Vec F S112x128 .i32) (x4 : Vec F S112x128 .i32) (x5 : Vec F S1x1x256 .f32) (xo7 : Vec F S1024x3584 .fp8e4m3) (xo8 : Vec F S1024x1 .f32) (xs1 : Vec F S1024x128 .f32) : Vec F S1024x256 .bf16 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 x0 x1 x2 x3 x4 x5 xo7 xo8 xs1).1)

/-- At the other points the body stores nothing into output 7: it holds what the point before left. -/
def out0_B_7 (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : ¬cond0_0 i)
    (x0 : Vec F S1024x3584 .bf16) (x1 : Vec F S1792x128 .i8) (x2 : Vec F S1792x128 .i8) (x3 : Vec F S112x128 .i32) (x4 : Vec F S112x128 .i32) (x5 : Vec F S1x1x256 .f32) (xo7 : Vec F S1024x3584 .fp8e4m3) (xo8 : Vec F S1024x1 .f32) (xs1 : Vec F S1024x128 .f32) : Vec F S1024x3584 .fp8e4m3 := xo7

/-- At the other points the body stores nothing into output 8: it holds what the point before left. -/
def out0_B_8 (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : ¬cond0_0 i)
    (x0 : Vec F S1024x3584 .bf16) (x1 : Vec F S1792x128 .i8) (x2 : Vec F S1792x128 .i8) (x3 : Vec F S112x128 .i32) (x4 : Vec F S112x128 .i32) (x5 : Vec F S1x1x256 .f32) (xo7 : Vec F S1024x3584 .fp8e4m3) (xo8 : Vec F S1024x1 .f32) (xs1 : Vec F S1024x128 .f32) : Vec F S1024x1 .f32 := xo8

/-- Case B stores nothing into scratch `arg11`: it holds what the point before left. -/
def sout0_B_1 (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : ¬cond0_0 i)
    (x0 : Vec F S1024x3584 .bf16) (x1 : Vec F S1792x128 .i8) (x2 : Vec F S1792x128 .i8) (x3 : Vec F S112x128 .i32) (x4 : Vec F S112x128 .i32) (x5 : Vec F S1x1x256 .f32) (xo7 : Vec F S1024x3584 .fp8e4m3) (xo8 : Vec F S1024x1 .f32) (xs1 : Vec F S1024x128 .f32) : Vec F S1024x128 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x256 .bf16 × Vec F S1024x3584 .fp8e4m3 × Vec F S1024x1 .f32 × Vec F S1024x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 74 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 74 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 74 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- A window's contents left by the body at a live point are `after` there, the window being uncut. -/
theorem kept_whole (c : Dev nD) (w : Fin cfg0.W) (hclip : ∀ (i : cfg0.grid.Coords) a, (cfg0.win w).clip i a = none) (t : Fin cfg0.N) (d) :
    (dats m 0 c).kept w t d = (dats m 0 c).after w t := by
  unfold Dat.kept
  rw [Pipeline.fill_of_clip_none w _ (hclip _) d ((dats m 0 c).after w _), Window.fill_cut]
/-- Output 7 is live at the points of case A only. -/
theorem idle0_7 (t : Fin cfg0.N) : cfg0.idle 7 (cfg0.grid.coords t) = decide (¬t.val % 74 = 0) := by
  show (!(k0_cond1 (grid0.coords t) == 1#1)) = _
  by_cases h0 : t.val % 74 = 0
  · rw [(hcond0_0 t).mpr h0]; simp only [h0]; rfl
  · have hc : ¬k0_cond1 (grid0.coords t) = 1#1 := fun h => h0 ((hcond0_0 t).mp h)
    rw [beq_false_of_ne hc]; simp only [h0]; rfl
/-- Output 7 is not written back before the last point. -/
theorem noflush0_7 (t : Fin cfg0.N) (h : t.val ≠ 73) : (cfg0.win 7).flush t = false :=
  Bool.eq_false_iff.mpr fun h' => by
    have := (flush0_7 _).mp h'
    have hN : t.val < 74 := lt_of_lt_of_eq t.isLt (show cfg0.N = 74 from N_0)
    omega
/-- After a point of case B output 7's contents are those after the point before. -/
theorem outsAt0_7_B (c : Dev nD) (n : ℕ) (hn : n < cfg0.N) (h0 : ¬n % 74 = 0) :
    (outsAt0 m c n hn).2.1 = (outsAt0 m c (n - 1) (Nat.lt_of_le_of_lt (Nat.sub_le _ _) hn)).2.1 := by
  have h := outsAt0_B m c ⟨n, hn⟩ h0
  dsimp only at h
  rw [h]
  unfold out0_B_7
  rfl
theorem before0_7_B' (c : Dev nD) : ∀ (n : ℕ) (hn : n < cfg0.N), ¬n % 74 = 0 → ∀ d,
    (dats m 0 c).before 7 ⟨n, hn⟩ d = (outsAt0 m c (n - 1) (Nat.lt_of_le_of_lt (Nat.sub_le _ _) hn)).2.1
  | 0, _, h0, _ => absurd (Nat.zero_mod _) h0
  | n + 1, hn, h0, d => by
    have hN : n + 1 < 74 := lt_of_lt_of_eq hn (show cfg0.N = 74 from N_0)
    rw [Dat.before_of_pos _ 7 _ (Nat.succ_ne_zero n) rfl, noflush0_7 _ (by show n + 1 - 1 ≠ 73; omega), if_neg Bool.false_ne_true]
    unfold Dat.left
    rw [idle0_7]
    by_cases hz : n % 74 = 0
    · rw [decide_eq_false (p := ¬(n + 1 - 1) % 74 = 0) (fun h => h hz)]
      refine (kept_whole m c 7 (fun _ _ => rfl) _ d).trans ?_
      dsimp only [dats]
    · rw [decide_eq_true (p := ¬(n + 1 - 1) % 74 = 0) hz]
      refine (before0_7_B' c n _ hz d).trans (outsAt0_7_B m c n _ hz).symm
/-- At a point of case B output 7's current staging buffer holds what the body left at the point before: the point is
    not the first, the buffer was not written back between (`flush0_7`), and an idle point leaves what it found. -/
theorem before0_7_B (c : Dev nD) (t : Fin cfg0.N) (h0 : ¬t.val % 74 = 0) (d) :
    (dats m 0 c).before 7 t d = (outsAt0 m c (t.val - 1) (Nat.lt_of_le_of_lt (Nat.sub_le _ _) t.isLt)).2.1 :=
  before0_7_B' m c t.val t.isLt h0 d
/-- What the body leaves of output 7 is what the obligation asks of it: at an idle point, what it found. -/
theorem leaves0_7 (c : Dev nD) (t : Fin cfg0.N) :
    owns (c : Thread nD τ) (ms0_7 t) fullShare ((dats m 0 c).after 7 t) ⊢ (dats m 0 c).leavesExact 7 t := by
  by_cases h0 : t.val % 74 = 0
  · unfold Dat.leavesExact; rw [idle0_7, decide_eq_false (p := ¬t.val % 74 = 0) (fun h => h h0)]
  · by_cases hl : t.val = 73
    · unfold Dat.leavesExact; rw [idle0_7, decide_eq_true (p := ¬t.val % 74 = 0) h0, (flush0_7 t).mpr (by omega)]
    · rw [Dat.leavesExact_idle _ _ _ ((idle0_7 t).trans (decide_eq_true h0)) (noflush0_7 t hl)]
      iintro H
      iexists ((dats m 0 c).after 7 t)
      rw [before0_7_B m c t h0, after0_7, outsAt0_7_B m c t.val t.isLt h0]
      iexact H

/-- Output 8 is live at the points of case A only. -/
theorem idle0_8 (t : Fin cfg0.N) : cfg0.idle 8 (cfg0.grid.coords t) = decide (¬t.val % 74 = 0) := by
  show (!(k0_cond1 (grid0.coords t) == 1#1)) = _
  by_cases h0 : t.val % 74 = 0
  · rw [(hcond0_0 t).mpr h0]; simp only [h0]; rfl
  · have hc : ¬k0_cond1 (grid0.coords t) = 1#1 := fun h => h0 ((hcond0_0 t).mp h)
    rw [beq_false_of_ne hc]; simp only [h0]; rfl
/-- Output 8 is not written back before the last point. -/
theorem noflush0_8 (t : Fin cfg0.N) (h : t.val ≠ 73) : (cfg0.win 8).flush t = false :=
  Bool.eq_false_iff.mpr fun h' => by
    have := (flush0_8 _).mp h'
    have hN : t.val < 74 := lt_of_lt_of_eq t.isLt (show cfg0.N = 74 from N_0)
    omega
/-- After a point of case B output 8's contents are those after the point before. -/
theorem outsAt0_8_B (c : Dev nD) (n : ℕ) (hn : n < cfg0.N) (h0 : ¬n % 74 = 0) :
    (outsAt0 m c n hn).2.2.1 = (outsAt0 m c (n - 1) (Nat.lt_of_le_of_lt (Nat.sub_le _ _) hn)).2.2.1 := by
  have h := outsAt0_B m c ⟨n, hn⟩ h0
  dsimp only at h
  rw [h]
  unfold out0_B_8
  rfl
theorem before0_8_B' (c : Dev nD) : ∀ (n : ℕ) (hn : n < cfg0.N), ¬n % 74 = 0 → ∀ d,
    (dats m 0 c).before 8 ⟨n, hn⟩ d = (outsAt0 m c (n - 1) (Nat.lt_of_le_of_lt (Nat.sub_le _ _) hn)).2.2.1
  | 0, _, h0, _ => absurd (Nat.zero_mod _) h0
  | n + 1, hn, h0, d => by
    have hN : n + 1 < 74 := lt_of_lt_of_eq hn (show cfg0.N = 74 from N_0)
    rw [Dat.before_of_pos _ 8 _ (Nat.succ_ne_zero n) rfl, noflush0_8 _ (by show n + 1 - 1 ≠ 73; omega), if_neg Bool.false_ne_true]
    unfold Dat.left
    rw [idle0_8]
    by_cases hz : n % 74 = 0
    · rw [decide_eq_false (p := ¬(n + 1 - 1) % 74 = 0) (fun h => h hz)]
      refine (kept_whole m c 8 (fun _ _ => rfl) _ d).trans ?_
      dsimp only [dats]
    · rw [decide_eq_true (p := ¬(n + 1 - 1) % 74 = 0) hz]
      refine (before0_8_B' c n _ hz d).trans (outsAt0_8_B m c n _ hz).symm
/-- At a point of case B output 8's current staging buffer holds what the body left at the point before: the point is
    not the first, the buffer was not written back between (`flush0_8`), and an idle point leaves what it found. -/
theorem before0_8_B (c : Dev nD) (t : Fin cfg0.N) (h0 : ¬t.val % 74 = 0) (d) :
    (dats m 0 c).before 8 t d = (outsAt0 m c (t.val - 1) (Nat.lt_of_le_of_lt (Nat.sub_le _ _) t.isLt)).2.2.1 :=
  before0_8_B' m c t.val t.isLt h0 d
/-- What the body leaves of output 8 is what the obligation asks of it: at an idle point, what it found. -/
theorem leaves0_8 (c : Dev nD) (t : Fin cfg0.N) :
    owns (c : Thread nD τ) (ms0_8 t) fullShare ((dats m 0 c).after 8 t) ⊢ (dats m 0 c).leavesExact 8 t := by
  by_cases h0 : t.val % 74 = 0
  · unfold Dat.leavesExact; rw [idle0_8, decide_eq_false (p := ¬t.val % 74 = 0) (fun h => h h0)]
  · by_cases hl : t.val = 73
    · unfold Dat.leavesExact; rw [idle0_8, decide_eq_true (p := ¬t.val % 74 = 0) h0, (flush0_8 t).mpr (by omega)]
    · rw [Dat.leavesExact_idle _ _ _ ((idle0_8 t).trans (decide_eq_true h0)) (noflush0_8 t hl)]
      iintro H
      iexists ((dats m 0 c).after 8 t)
      rw [before0_8_B m c t h0, after0_8, outsAt0_8_B m c t.val t.isLt h0]
      iexact H

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 8000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 74 := lt_of_lt_of_eq t.isLt (show cfg0.N = 74 from N_0)
  by_cases h0 : t.val % 74 = 0
  · by_cases hz : t.val = 0
    · rw [PhiS_castSucc m c t, PhiS_zero m c _ _ hz, PhiA0_eq]
      rw [outsAt0_A m c t h0]
      unfold out0_A_6 out0_A_7 out0_A_8 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, HS0, ⟨%es1, HS1⟩⟩
      isplitl [HS0 HS1 Hg]
      · isplitl [HS0 HS1]
        · isplitl [HS0]
          · iexact HS0
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _)
    · exfalso; have hN : t.val < 74 := lt_of_lt_of_eq t.isLt (show cfg0.N = 74 from N_0); omega
  · by_cases hz : t.val = 0
    · exfalso; have hN : t.val < 74 := lt_of_lt_of_eq t.isLt (show cfg0.N = 74 from N_0); omega
    · rw [PhiS_castSucc m c t, PhiS_pos m c _ _ hz]
      rw [outsAt0_B m c t h0]
      simp only [before0_7_B m c t h0, before0_8_B m c t h0]
      unfold out0_B_6 out0_B_7 out0_B_8 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _ _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexact H7
      iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HP, Ho, H0, H1, H2, H3, H4, H5, H6, H7, H8⟩
  isplitl [HP]
  · iexact HP
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iapply leaves0_7 m c t; iexact H7
  iapply leaves0_8 m c t; iexact H8

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 74 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Hand.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.KTwin.lean ====
/- The kernel and its idealization are one program text in two namespaces, so the frame proved of the one is the frame of the other. -/
module

public import proofs.«01_k».proof.Defs
public import proofs.«01_k».proof.Proof.Gen.Kernel
public import proofs.«01_k».proof.Proof.KFrame

@[expose] public section

noncomputable section

namespace Cert.Kernel.Hand

open Idealize.ShloMosaic Idealize.ShloMosaic.TcCoe Idealize.SL.Sem

attribute [local instance] Cert.Kernel.Gen.facts Cert.KernelIdeal.Gen.facts

/-- The two kernel bodies agree. -/
theorem body_eq (F : FTy → Type) [FloatOps F] :
    Cert.Kernel.cc0_sparse24_fp8 (F := F) = Cert.KernelIdeal.cc0_sparse24_fp8 (F := F) := rfl

/-- The two tables of kernel bodies agree: at the one label there is, by `body_eq`. -/
theorem bodies_eq (F : FTy → Type) [FloatOps F] : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext l a
  match l, a with
  | 0, (t, s) => exact rfl

/-- So do the tables with the pipelines' own labels. -/
theorem defs_eq (F : FTy → Type) [FloatOps F] : Cert.Kernel.defs (F := F) = Cert.KernelIdeal.defs (F := F) := by
  unfold Cert.Kernel.defs Cert.KernelIdeal.defs
  rw [bodies_eq]
  rfl

/-- The frame of the kernel. -/
theorem frame (F : FTy → Type) [FloatOps F] (m : (ℓ : Loc Cert.Kernel.nD Cert.Kernel.τ Cert.Kernel.sig) → Buf (Elt F) ℓ)
    (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [defs_eq]
  exact Cert.KernelIdeal.Hand.frame (F := F) m ρ

end Cert.Kernel.Hand

end
-- ==== Proof.KValue.lean ====
/- What the arrays hold after the run, from what the body leaves at each grid point. -/
module

public import proofs.«01_k».proof.Proof.KFrame
public import Idealize.ShloMosaic.Lib.Pipeline.Value

@[expose] public section

noncomputable section

namespace Cert.KernelIdeal.Hand.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- … so at a point where case A runs, what its write-back would write is that case's NAMED TERM for the window (`out0_A_6`: the pieces
    its run found, read back) at the point's memrefs and input blocks, and for an output the case reads back what the point before left (`outsAt0` at `t - 1`) — by the frame's rewriting lemma for the case. -/
theorem flushed6_A (c : Dev nD) (t : Fin cfg0.N) (h0 : t.val % 74 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)) := by
  simp only [flushed6, outsAt0_A m c t h0]

/-- … so at a point where case B runs, what its write-back would write is that case's NAMED TERM for the window (`out0_B_6`: the pieces
    its run found, read back) at the point's memrefs and input blocks, and for an output the case reads back what the point before left (`outsAt0` at `t - 1`) — by the frame's rewriting lemma for the case. -/
theorem flushed6_B (c : Dev nD) (t : Fin cfg0.N) (h0 : ¬t.val % 74 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed6, outsAt0_B m c t h0]

/-- The index map sends distinct grid points to distinct block indices (decided over the 74 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S1024x18944.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`outsAt0`: its component 1), read through the window's block. -/
theorem flushed7 (c : Dev nD) (t : Fin cfg0.N) :
    (dats m 0 c).flushed 7 t = (cfg0.win 7).cut (grid0.coords t) ((outsAt0 m c t.val t.isLt).2.1) := by
  show (cfg0.win 7).cut (grid0.coords t) ((dats m 0 c).after 7 t) = _
  rw [after0_7]

/-- … so at a point where case A runs, what its write-back would write is that case's NAMED TERM for the window (`out0_A_7`: the pieces
    its run found, read back) at the point's memrefs and input blocks, and for an output the case reads back what the point before left (`outsAt0` at `t - 1`) — by the frame's rewriting lemma for the case. -/
theorem flushed7_A (c : Dev nD) (t : Fin cfg0.N) (h0 : t.val % 74 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)) := by
  simp only [flushed7, outsAt0_A m c t h0]

/-- … so at a point where case B runs, what its write-back would write is that case's NAMED TERM for the window (`out0_B_7`: the pieces
    its run found, read back) at the point's memrefs and input blocks, and for an output the case reads back what the point before left (`outsAt0` at `t - 1`) — by the frame's rewriting lemma for the case. -/
theorem flushed7_B (c : Dev nD) (t : Fin cfg0.N) (h0 : ¬t.val % 74 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed7, outsAt0_B m c t h0]

-- no `blocks7`: window 7's index map revisits a block index, or its points could not be enumerated here;
-- the final array is still the frame's `arrAt`, to read with Lib/Pipeline/Value.lean's lemmas by hand

/-- An index that no flushing point's block covers keeps output window 7's array contents at region entry. -/
theorem entry7 (c : Dev nD) (i : S1024x3584.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`outsAt0`: its component 2), read through the window's block. -/
theorem flushed8 (c : Dev nD) (t : Fin cfg0.N) :
    (dats m 0 c).flushed 8 t = (cfg0.win 8).cut (grid0.coords t) ((outsAt0 m c t.val t.isLt).2.2.1) := by
  show (cfg0.win 8).cut (grid0.coords t) ((dats m 0 c).after 8 t) = _
  rw [after0_8]

/-- … so at a point where case A runs, what its write-back would write is that case's NAMED TERM for the window (`out0_A_8`: the pieces
    its run found, read back) at the point's memrefs and input blocks, and for an output the case reads back what the point before left (`outsAt0` at `t - 1`) — by the frame's rewriting lemma for the case. -/
theorem flushed8_A (c : Dev nD) (t : Fin cfg0.N) (h0 : t.val % 74 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)) := by
  simp only [flushed8, outsAt0_A m c t h0]

/-- … so at a point where case B runs, what its write-back would write is that case's NAMED TERM for the window (`out0_B_8`: the pieces
    its run found, read back) at the point's memrefs and input blocks, and for an output the case reads back what the point before left (`outsAt0` at `t - 1`) — by the frame's rewriting lemma for the case. -/
theorem flushed8_B (c : Dev nD) (t : Fin cfg0.N) (h0 : ¬t.val % 74 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed8, outsAt0_B m c t h0]

-- no `blocks8`: window 8's index map revisits a block index, or its points could not be enumerated here;
-- the final array is still the frame's `arrAt`, to read with Lib/Pipeline/Value.lean's lemmas by hand

/-- An index that no flushing point's block covers keeps output window 8's array contents at region entry. -/
theorem entry8 (c : Dev nD) (i : S1024x1.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v2_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v2_2) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 2 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- After the frame run, argument `main_arg2` is as launched: input window 4 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 6 cfg0.N
      ∧ r.2.mem ((c : Thread nD τ).loc main_v2_1) = (dats m 0 c).arrAt 7 cfg0.N
      ∧ r.2.mem ((c : Thread nD τ).loc main_v2_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post6 m r h c,
      post7 m r h c,
      post8 m r h c,
      kept_main_arg0 m r h c,
      kept_main_arg1 m r h c,
      kept_main_arg2 m r h c,
      kept_main_arg3 m r h c⟩)
    (run_main m ρ)

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `outsAt0`'s at `n - 1`); a case at the first point
    stores the scratch whole without reading what it held, and `acc` does not enter there (nor where no point meets the
    conditions: `acc`, never read). -/
def scAt0_1 (c : Dev nD) (n : ℕ) (hb : n < cfg0.N) (acc : Vec F S1024x128 .f32) : Vec F S1024x128 .f32 :=
  if h0 : n % 74 = 0 then
    sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
  else
    sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc

/-- WHAT CARRIED SCRATCH 1 HOLDS after point `t`: the fold of its run up to `t`, from the reset at the run's first point
    `74·(t / 74)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2 = Pipeline.accAt (fun n h => scAt0_1 m c n h (VS0_1.read (Elt F) VS0_1.junk)) (scAt0_1 m c) (74 * (t.val / 74)) (t.val % 74)
      (by have h1 := t.isLt; have h2 := Nat.div_add_mod t.val 74; omega) :=
  Pipeline.eq_accAt_of_mod (fun n h => (outsAt0 m c n h).2.2.2) 74 (fun n h => scAt0_1 m c n h (VS0_1.read (Elt F) VS0_1.junk)) (scAt0_1 m c)
    (fun n h hn => by
      have hN := lt_of_lt_of_eq h (show cfg0.N = 74 from N_0)
      by_cases h0 : n % 74 = 0
      all_goals first | (exfalso; omega) | (rw [outsAt0_A m c ⟨n, h⟩ h0]; dsimp only; unfold scAt0_1; rw [dif_pos h0] <;> try rfl) | (rw [outsAt0_B m c ⟨n, h⟩ h0]; dsimp only; unfold scAt0_1; rw [dif_neg h0] <;> try rfl))
    (fun n h hn => by
      have hN := lt_of_lt_of_eq h (show cfg0.N = 74 from N_0)
      by_cases h0 : (n + 1) % 74 = 0
      all_goals first | (exfalso; omega) | (rw [outsAt0_A m c ⟨n + 1, h⟩ h0]; dsimp only; unfold scAt0_1; rw [dif_pos h0] <;> try rfl) | (rw [outsAt0_B m c ⟨n + 1, h⟩ h0]; dsimp only; unfold scAt0_1; rw [dif_neg h0] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 74 from N_0)
  have hd : n / 74 = 0 := Nat.div_eq_of_lt hN
  have hm : n % 74 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1024x256 .bf16 × Vec F S1024x3584 .fp8e4m3 × Vec F S1024x1 .f32 × Vec F S1024x128 .f32 :=
  ((VO0_6.read (Elt F) VO0_6.junk, VO0_7.read (Elt F) VO0_7.junk, VO0_8.read (Elt F) VO0_8.junk, VS0_1.read (Elt F) VS0_1.junk) : Vec F S1024x256 .bf16 × Vec F S1024x3584 .fp8e4m3 × Vec F S1024x1 .f32 × Vec F S1024x128 .f32)

/-- THE STEP: what point `n` leaves in the named outputs and the carried scratch (`outsAt0`'s tuple), over what the
    point before left (`acc`) — `outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1024x256 .bf16 × Vec F S1024x3584 .fp8e4m3 × Vec F S1024x1 .f32 × Vec F S1024x128 .f32) : Vec F S1024x256 .bf16 × Vec F S1024x3584 .fp8e4m3 × Vec F S1024x1 .f32 × Vec F S1024x128 .f32 :=
  if h0 : n % 74 = 0 then
    (out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)))
  else
    (out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.1 acc.2.2.1 acc.2.2.2, out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.1 acc.2.2.1 acc.2.2.2, out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.1 acc.2.2.1 acc.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.1 acc.2.2.1 acc.2.2.2)

/-- `stAt0` at a point of case A: that case's contents. -/
theorem stAt0_A (c : Dev nD) (t : Fin cfg0.N) (acc : Vec F S1024x256 .bf16 × Vec F S1024x3584 .fp8e4m3 × Vec F S1024x1 .f32 × Vec F S1024x128 .f32) (h0 : t.val % 74 = 0) :
    stAt0 m c t.val t.isLt acc = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)) :=
  (dif_pos h0).trans rfl

/-- `stAt0` at a point of case B: that case's contents, over `acc`. -/
theorem stAt0_B (c : Dev nD) (t : Fin cfg0.N) (acc : Vec F S1024x256 .bf16 × Vec F S1024x3584 .fp8e4m3 × Vec F S1024x1 .f32 × Vec F S1024x128 .f32) (h0 : ¬t.val % 74 = 0) :
    stAt0 m c t.val t.isLt acc = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) acc.2.1 acc.2.2.1 acc.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) acc.2.1 acc.2.2.1 acc.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) acc.2.1 acc.2.2.1 acc.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) acc.2.1 acc.2.2.1 acc.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 74 from N_0)
  have e := Pipeline.eq_accAt_of_mod (fun n h => outsAt0 m c n h) 74 (fun n h => stAt0 m c n h junk0) (stAt0 m c)
    (fun n h _ => by
      have hN := lt_of_lt_of_eq h (show cfg0.N = 74 from N_0)
      obtain rfl : n = 0 := by omega
      exact outsAt0_zero m c h)
    (fun n h _ => outsAt0_succ m c n h)
    (by decide) n hn (by have := Nat.div_add_mod n 74; omega)
  have hd : n / 74 = 0 := Nat.div_eq_of_lt hN
  have hm : n % 74 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 6 -/

/-- The block of the array that holds index `i`, numbered in the order the points write the blocks back (one per point),
    `i`'s place in it, and the point that writes it back. -/
abbrev run6Of (i : S1024x18944.Idx) : ℕ := 74 * ((i 0).val / 1024 - 0) + 1 * ((i 1).val / 256 - 0)
set_option backward.proofsInPublic true in
abbrev loc6Of (i : S1024x18944.Idx) : S1024x256.Idx := fun a => match a with
  | ⟨0, _⟩ => ⟨(i 0).val % 1024, Nat.mod_lt _ (by decide)⟩
  | ⟨1, _⟩ => ⟨(i 1).val % 256, Nat.mod_lt _ (by decide)⟩
abbrev pt6Of (i : S1024x18944.Idx) : ℕ := run6Of i

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v2_0) := fun i =>
  if h : pt6Of i < cfg0.N then
    (Pipeline.accAt (fun n h => stAt0 m c n h junk0) (stAt0 m c) 0 (pt6Of i) (by omega)).1 (loc6Of i)
  else V m c (Pipeline.arrRef spec0 6) i

/-- The printed index map, decided over the grid: output window 6's block indices stay in the box, and the block number
    read off them is the point's (`t`). -/
theorem idx_facts6 : ∀ t : Fin cfg0.N, 0 ≤ win0_6.index t (0 : Fin 2) ∧ win0_6.index t (0 : Fin 2) ≤ 0
    ∧ 0 ≤ win0_6.index t (1 : Fin 2) ∧ win0_6.index t (1 : Fin 2) ≤ 73
    ∧ 74 * (win0_6.index t (0 : Fin 2) - 0) + 1 * (win0_6.index t (1 : Fin 2) - 0) = t.val :=
  (by decide +kernel : ∀ t : Fin grid0.N, _)

/-- Every block of the box is SOME flushing point's: `onto6Pt`, the point that writes back the block at place `q` of the box. -/
abbrev onto6Pt (q0 : Fin 1) (q1 : Fin 74) : Fin grid0.N :=
  ⟨74 * q0.val + 1 * q1.val, lt_of_lt_of_eq (by omega) N_0.symm⟩
theorem idx_onto6 : ∀ (q0 : Fin 1) (q1 : Fin 74), ∃ t : Fin cfg0.N, (cfg0.win 6).flush t = true ∧ win0_6.index t = ![q0.val + 0, q1.val + 0] :=
  fun q0 q1 => ⟨onto6Pt q0 q1, (by decide +kernel : ∀ (q0 : Fin 1) (q1 : Fin 74), win0_6.flush (onto6Pt q0 q1) = true ∧ win0_6.index (onto6Pt q0 q1) = ![q0.val + 0, q1.val + 0]) q0 q1⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  obtain ⟨e0, e1, e2⟩ := idx_facts6 t
  funext y
  have hy0 : (y 0).val < 1024 := (y 0).isLt
  have hy1 : (y 1).val < 256 := (y 1).isLt
  have hb0 : (((cfg0.win 6).blk t).view.emb y 0).val = win0_6.index t (0 : Fin 2) * 1024 + 1 * (y 0).val := rfl
  have hb1 : (((cfg0.win 6).blk t).view.emb y 1).val = win0_6.index t (1 : Fin 2) * 256 + 1 * (y 1).val := rfl
  have hr : run6Of (((cfg0.win 6).blk t).view.emb y) = t.val := by
    show 74 * ((((cfg0.win 6).blk t).view.emb y 0).val / 1024 - 0) + 1 * ((((cfg0.win 6).blk t).view.emb y 1).val / 256 - 0) = _
    rw [hb0, hb1]
    rw [show (win0_6.index t (0 : Fin 2) * 1024 + 1 * (y 0).val) / 1024 = win0_6.index t (0 : Fin 2) from by omega]; rw [show (win0_6.index t (1 : Fin 2) * 256 + 1 * (y 1).val) / 256 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 1024 = (y 0).val; rw [hb0]; omega
    | ⟨1, _⟩ => show (((cfg0.win 6).blk t).view.emb y 1).val % 256 = (y 1).val; rw [hb1]; omega
  have hp : pt6Of (((cfg0.win 6).blk t).view.emb y) = t.val := by
    exact hr
  show (Pipeline.accAt (fun n h => stAt0 m c n h junk0) (stAt0 m c) 0 t.val _).1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S1024x18944.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v2_0).slice (win0_6.rect t)).set ↔ _
  rw [View.set_slice_whole, Rect.mem_set_unit]
  exact Iff.rfl

/-- THE COVERED INDICES: in some flushing point's block iff inside the box those blocks fill. -/
theorem covered_iff6 (i : S1024x18944.Idx) :
    (∃ t : Fin cfg0.N, (cfg0.win 6).flush t = true ∧ i ∈ ((cfg0.win 6).blk t).view.set) ↔ 0 ≤ (i 0).val ∧ (i 0).val < 1024 ∧ 0 ≤ (i 1).val ∧ (i 1).val < 18944 := by
  constructor
  · rintro ⟨t, -, hi⟩
    rw [mem_blk6] at hi
    have b0 : win0_6.index t (0 : Fin 2) * 1024 ≤ (i 0).val ∧ (i 0).val < win0_6.index t (0 : Fin 2) * 1024 + 1024 := hi 0
    have b1 : win0_6.index t (1 : Fin 2) * 256 ≤ (i 1).val ∧ (i 1).val < win0_6.index t (1 : Fin 2) * 256 + 256 := hi 1
    obtain ⟨e0, e1, e2⟩ := idx_facts6 t
    omega
  · intro h
    have hi0 : (i 0).val < 1024 := (i 0).isLt
    have hi1 : (i 1).val < 18944 := (i 1).isLt
    obtain ⟨t, hft, ht⟩ := idx_onto6 ⟨(i 0).val / 1024 - 0, by omega⟩ ⟨(i 1).val / 256 - 0, by omega⟩
    have q0 : win0_6.index t (0 : Fin 2) = (i 0).val / 1024 - 0 + 0 := congrFun ht 0
    have q1 : win0_6.index t (1 : Fin 2) = (i 1).val / 256 - 0 + 0 := congrFun ht 1
    refine ⟨t, hft, ?_⟩
    rw [mem_blk6]
    intro a
    match a with
    | ⟨0, _⟩ => show win0_6.index t (0 : Fin 2) * 1024 ≤ (i 0).val ∧ (i 0).val < win0_6.index t (0 : Fin 2) * 1024 + 1024; omega
    | ⟨1, _⟩ => show win0_6.index t (1 : Fin 2) * 256 ≤ (i 1).val ∧ (i 1).val < win0_6.index t (1 : Fin 2) * 256 + 256; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 1024 := (i 0).isLt; have h1 : (i 1).val < 18944 := (i 1).isLt; omega))

/-! ## Output window 7 -/

/-- The block of the array that holds index `i`, numbered in the order the points write the blocks back (one every 74 points),
    `i`'s place in it, and the point that writes it back (the last of its 74). -/
abbrev run7Of (i : S1024x3584.Idx) : ℕ := 1 * ((i 0).val / 1024 - 0) + 1 * ((i 1).val / 3584 - 0)
set_option backward.proofsInPublic true in
abbrev loc7Of (i : S1024x3584.Idx) : S1024x3584.Idx := fun a => match a with
  | ⟨0, _⟩ => ⟨(i 0).val % 1024, Nat.mod_lt _ (by decide)⟩
  | ⟨1, _⟩ => ⟨(i 1).val % 3584, Nat.mod_lt _ (by decide)⟩
abbrev pt7Of (i : S1024x3584.Idx) : ℕ := 74 * run7Of i + 73

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v2_1) := fun i =>
  if h : pt7Of i < cfg0.N then
    (Pipeline.accAt (fun n h => stAt0 m c n h junk0) (stAt0 m c) 0 (pt7Of i) (by omega)).2.1 (loc7Of i)
  else V m c (Pipeline.arrRef spec0 7) i

/-- The printed index map, decided over the grid: output window 7's block indices stay in the box, and the block number
    read off them is the point's (`t / 74`). -/
theorem idx_facts7 : ∀ t : Fin cfg0.N, 0 ≤ win0_7.index t (0 : Fin 2) ∧ win0_7.index t (0 : Fin 2) ≤ 0
    ∧ 0 ≤ win0_7.index t (1 : Fin 2) ∧ win0_7.index t (1 : Fin 2) ≤ 0
    ∧ 1 * (win0_7.index t (0 : Fin 2) - 0) + 1 * (win0_7.index t (1 : Fin 2) - 0) = t.val / 74 :=
  (by decide +kernel : ∀ t : Fin grid0.N, _)

/-- Every block of the box is SOME flushing point's: `onto7Pt`, the point that writes back the block at place `q` of the box (the last point of its run). -/
abbrev onto7Pt (q0 : Fin 1) (q1 : Fin 1) : Fin grid0.N :=
  ⟨74 * (1 * q0.val + 1 * q1.val) + 73, lt_of_lt_of_eq (by omega) N_0.symm⟩
theorem idx_onto7 : ∀ (q0 : Fin 1) (q1 : Fin 1), ∃ t : Fin cfg0.N, (cfg0.win 7).flush t = true ∧ win0_7.index t = ![q0.val + 0, q1.val + 0] :=
  fun q0 q1 => ⟨onto7Pt q0 q1, (by decide +kernel : ∀ (q0 : Fin 1) (q1 : Fin 1), win0_7.flush (onto7Pt q0 q1) = true ∧ win0_7.index (onto7Pt q0 q1) = ![q0.val + 0, q1.val + 0]) q0 q1⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  have hm : t.val % 74 = 73 := (flush0_7 t).mp hf
  obtain ⟨e0, e1, e2⟩ := idx_facts7 t
  funext y
  have hy0 : (y 0).val < 1024 := (y 0).isLt
  have hy1 : (y 1).val < 3584 := (y 1).isLt
  have hb0 : (((cfg0.win 7).blk t).view.emb y 0).val = win0_7.index t (0 : Fin 2) * 1024 + 1 * (y 0).val := rfl
  have hb1 : (((cfg0.win 7).blk t).view.emb y 1).val = win0_7.index t (1 : Fin 2) * 3584 + 1 * (y 1).val := rfl
  have hr : run7Of (((cfg0.win 7).blk t).view.emb y) = t.val / 74 := by
    show 1 * ((((cfg0.win 7).blk t).view.emb y 0).val / 1024 - 0) + 1 * ((((cfg0.win 7).blk t).view.emb y 1).val / 3584 - 0) = _
    rw [hb0, hb1]
    rw [show (win0_7.index t (0 : Fin 2) * 1024 + 1 * (y 0).val) / 1024 = win0_7.index t (0 : Fin 2) from by omega]; rw [show (win0_7.index t (1 : Fin 2) * 3584 + 1 * (y 1).val) / 3584 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 1024 = (y 0).val; rw [hb0]; omega
    | ⟨1, _⟩ => show (((cfg0.win 7).blk t).view.emb y 1).val % 3584 = (y 1).val; rw [hb1]; omega
  have hp : pt7Of (((cfg0.win 7).blk t).view.emb y) = t.val := by
    show 74 * run7Of (((cfg0.win 7).blk t).view.emb y) + 73 = _
    rw [hr]; have := Nat.div_add_mod t.val 74; omega
  show (Pipeline.accAt (fun n h => stAt0 m c n h junk0) (stAt0 m c) 0 t.val _).2.1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S1024x3584.Idx) :
    i ∈ ((cfg0.win 7).blk t).view.set ↔ ∀ a : Fin 2, win0_7.index t a * S1024x3584.size a ≤ (i a).val ∧ (i a).val < win0_7.index t a * S1024x3584.size a + S1024x3584.size a := by
  show i ∈ ((View.whole main_v2_1).slice (win0_7.rect t)).set ↔ _
  rw [View.set_slice_whole, Rect.mem_set_unit]
  exact Iff.rfl

/-- THE COVERED INDICES: in some flushing point's block iff inside the box those blocks fill. -/
theorem covered_iff7 (i : S1024x3584.Idx) :
    (∃ t : Fin cfg0.N, (cfg0.win 7).flush t = true ∧ i ∈ ((cfg0.win 7).blk t).view.set) ↔ 0 ≤ (i 0).val ∧ (i 0).val < 1024 ∧ 0 ≤ (i 1).val ∧ (i 1).val < 3584 := by
  constructor
  · rintro ⟨t, -, hi⟩
    rw [mem_blk7] at hi
    have b0 : win0_7.index t (0 : Fin 2) * 1024 ≤ (i 0).val ∧ (i 0).val < win0_7.index t (0 : Fin 2) * 1024 + 1024 := hi 0
    have b1 : win0_7.index t (1 : Fin 2) * 3584 ≤ (i 1).val ∧ (i 1).val < win0_7.index t (1 : Fin 2) * 3584 + 3584 := hi 1
    obtain ⟨e0, e1, e2⟩ := idx_facts7 t
    omega
  · intro h
    have hi0 : (i 0).val < 1024 := (i 0).isLt
    have hi1 : (i 1).val < 3584 := (i 1).isLt
    obtain ⟨t, hft, ht⟩ := idx_onto7 ⟨(i 0).val / 1024 - 0, by omega⟩ ⟨(i 1).val / 3584 - 0, by omega⟩
    have q0 : win0_7.index t (0 : Fin 2) = (i 0).val / 1024 - 0 + 0 := congrFun ht 0
    have q1 : win0_7.index t (1 : Fin 2) = (i 1).val / 3584 - 0 + 0 := congrFun ht 1
    refine ⟨t, hft, ?_⟩
    rw [mem_blk7]
    intro a
    match a with
    | ⟨0, _⟩ => show win0_7.index t (0 : Fin 2) * 1024 ≤ (i 0).val ∧ (i 0).val < win0_7.index t (0 : Fin 2) * 1024 + 1024; omega
    | ⟨1, _⟩ => show win0_7.index t (1 : Fin 2) * 3584 ≤ (i 1).val ∧ (i 1).val < win0_7.index t (1 : Fin 2) * 3584 + 3584; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 1024 := (i 0).isLt; have h1 : (i 1).val < 3584 := (i 1).isLt; omega))

/-- Output 7 is written back ONCE, at the last point, and its block is its array: the array after the run is output 7's
    component of the fold over the whole grid — where a hand proof over this window starts. -/
theorem G7_last (c : Dev nD) :
    G7 m c = (Pipeline.accAt (fun n h => stAt0 m c n h junk0) (stAt0 m c) 0 73 (lt_of_lt_of_eq (by decide) N_0.symm)).2.1 := by
  funext i
  have hi0 : (i 0).val < 1024 := (i 0).isLt
  have hi1 : (i 1).val < 3584 := (i 1).isLt
  have hp : pt7Of i = 73 := by
    show 74 * (1 * ((i 0).val / 1024 - 0) + 1 * ((i 1).val / 3584 - 0)) + 73 = _
    omega
  have hl : loc7Of i = i := by
    funext a; apply Fin.ext
    match a with
    | ⟨0, _⟩ => show (i 0).val % 1024 = (i 0).val; omega
    | ⟨1, _⟩ => show (i 1).val % 3584 = (i 1).val; omega
  unfold G7
  rw [dif_pos (by rw [hp]; exact lt_of_lt_of_eq (by decide) N_0.symm), hl, fold0_congr m c _ _ _ _ hp]

/-! ## Output window 8 -/

/-- The block of the array that holds index `i`, numbered in the order the points write the blocks back (one every 74 points),
    `i`'s place in it, and the point that writes it back (the last of its 74). -/
abbrev run8Of (i : S1024x1.Idx) : ℕ := 1 * ((i 0).val / 1024 - 0) + 1 * ((i 1).val / 1 - 0)
set_option backward.proofsInPublic true in
abbrev loc8Of (i : S1024x1.Idx) : S1024x1.Idx := fun a => match a with
  | ⟨0, _⟩ => ⟨(i 0).val % 1024, Nat.mod_lt _ (by decide)⟩
  | ⟨1, _⟩ => ⟨(i 1).val % 1, Nat.mod_lt _ (by decide)⟩
abbrev pt8Of (i : S1024x1.Idx) : ℕ := 74 * run8Of i + 73

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v2_2) := fun i =>
  if h : pt8Of i < cfg0.N then
    (Pipeline.accAt (fun n h => stAt0 m c n h junk0) (stAt0 m c) 0 (pt8Of i) (by omega)).2.2.1 (loc8Of i)
  else V m c (Pipeline.arrRef spec0 8) i

/-- The printed index map, decided over the grid: output window 8's block indices stay in the box, and the block number
    read off them is the point's (`t / 74`). -/
theorem idx_facts8 : ∀ t : Fin cfg0.N, 0 ≤ win0_8.index t (0 : Fin 2) ∧ win0_8.index t (0 : Fin 2) ≤ 0
    ∧ 0 ≤ win0_8.index t (1 : Fin 2) ∧ win0_8.index t (1 : Fin 2) ≤ 0
    ∧ 1 * (win0_8.index t (0 : Fin 2) - 0) + 1 * (win0_8.index t (1 : Fin 2) - 0) = t.val / 74 :=
  (by decide +kernel : ∀ t : Fin grid0.N, _)

/-- Every block of the box is SOME flushing point's: `onto8Pt`, the point that writes back the block at place `q` of the box (the last point of its run). -/
abbrev onto8Pt (q0 : Fin 1) (q1 : Fin 1) : Fin grid0.N :=
  ⟨74 * (1 * q0.val + 1 * q1.val) + 73, lt_of_lt_of_eq (by omega) N_0.symm⟩
theorem idx_onto8 : ∀ (q0 : Fin 1) (q1 : Fin 1), ∃ t : Fin cfg0.N, (cfg0.win 8).flush t = true ∧ win0_8.index t = ![q0.val + 0, q1.val + 0] :=
  fun q0 q1 => ⟨onto8Pt q0 q1, (by decide +kernel : ∀ (q0 : Fin 1) (q1 : Fin 1), win0_8.flush (onto8Pt q0 q1) = true ∧ win0_8.index (onto8Pt q0 q1) = ![q0.val + 0, q1.val + 0]) q0 q1⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  have hm : t.val % 74 = 73 := (flush0_8 t).mp hf
  obtain ⟨e0, e1, e2⟩ := idx_facts8 t
  funext y
  have hy0 : (y 0).val < 1024 := (y 0).isLt
  have hy1 : (y 1).val < 1 := (y 1).isLt
  have hb0 : (((cfg0.win 8).blk t).view.emb y 0).val = win0_8.index t (0 : Fin 2) * 1024 + 1 * (y 0).val := rfl
  have hb1 : (((cfg0.win 8).blk t).view.emb y 1).val = win0_8.index t (1 : Fin 2) * 1 + 1 * (y 1).val := rfl
  have hr : run8Of (((cfg0.win 8).blk t).view.emb y) = t.val / 74 := by
    show 1 * ((((cfg0.win 8).blk t).view.emb y 0).val / 1024 - 0) + 1 * ((((cfg0.win 8).blk t).view.emb y 1).val / 1 - 0) = _
    rw [hb0, hb1]
    rw [show (win0_8.index t (0 : Fin 2) * 1024 + 1 * (y 0).val) / 1024 = win0_8.index t (0 : Fin 2) from by omega]; rw [show (win0_8.index t (1 : Fin 2) * 1 + 1 * (y 1).val) / 1 = win0_8.index t (1 : Fin 2) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 1024 = (y 0).val; rw [hb0]; omega
    | ⟨1, _⟩ => show (((cfg0.win 8).blk t).view.emb y 1).val % 1 = (y 1).val; rw [hb1]; omega
  have hp : pt8Of (((cfg0.win 8).blk t).view.emb y) = t.val := by
    show 74 * run8Of (((cfg0.win 8).blk t).view.emb y) + 73 = _
    rw [hr]; have := Nat.div_add_mod t.val 74; omega
  show (Pipeline.accAt (fun n h => stAt0 m c n h junk0) (stAt0 m c) 0 t.val _).2.2.1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S1024x1.Idx) :
    i ∈ ((cfg0.win 8).blk t).view.set ↔ ∀ a : Fin 2, win0_8.index t a * S1024x1.size a ≤ (i a).val ∧ (i a).val < win0_8.index t a * S1024x1.size a + S1024x1.size a := by
  show i ∈ ((View.whole main_v2_2).slice (win0_8.rect t)).set ↔ _
  rw [View.set_slice_whole, Rect.mem_set_unit]
  exact Iff.rfl

/-- THE COVERED INDICES: in some flushing point's block iff inside the box those blocks fill. -/
theorem covered_iff8 (i : S1024x1.Idx) :
    (∃ t : Fin cfg0.N, (cfg0.win 8).flush t = true ∧ i ∈ ((cfg0.win 8).blk t).view.set) ↔ 0 ≤ (i 0).val ∧ (i 0).val < 1024 ∧ 0 ≤ (i 1).val ∧ (i 1).val < 1 := by
  constructor
  · rintro ⟨t, -, hi⟩
    rw [mem_blk8] at hi
    have b0 : win0_8.index t (0 : Fin 2) * 1024 ≤ (i 0).val ∧ (i 0).val < win0_8.index t (0 : Fin 2) * 1024 + 1024 := hi 0
    have b1 : win0_8.index t (1 : Fin 2) * 1 ≤ (i 1).val ∧ (i 1).val < win0_8.index t (1 : Fin 2) * 1 + 1 := hi 1
    obtain ⟨e0, e1, e2⟩ := idx_facts8 t
    omega
  · intro h
    have hi0 : (i 0).val < 1024 := (i 0).isLt
    have hi1 : (i 1).val < 1 := (i 1).isLt
    obtain ⟨t, hft, ht⟩ := idx_onto8 ⟨(i 0).val / 1024 - 0, by omega⟩ ⟨(i 1).val / 1 - 0, by omega⟩
    have q0 : win0_8.index t (0 : Fin 2) = (i 0).val / 1024 - 0 + 0 := congrFun ht 0
    have q1 : win0_8.index t (1 : Fin 2) = (i 1).val / 1 - 0 + 0 := congrFun ht 1
    refine ⟨t, hft, ?_⟩
    rw [mem_blk8]
    intro a
    match a with
    | ⟨0, _⟩ => show win0_8.index t (0 : Fin 2) * 1024 ≤ (i 0).val ∧ (i 0).val < win0_8.index t (0 : Fin 2) * 1024 + 1024; omega
    | ⟨1, _⟩ => show win0_8.index t (1 : Fin 2) * 1 ≤ (i 1).val ∧ (i 1).val < win0_8.index t (1 : Fin 2) * 1 + 1; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 1024 := (i 0).isLt; have h1 : (i 1).val < 1 := (i 1).isLt; omega))

/-- Output 8 is written back ONCE, at the last point, and its block is its array: the array after the run is output 8's
    component of the fold over the whole grid — where a hand proof over this window starts. -/
theorem G8_last (c : Dev nD) :
    G8 m c = (Pipeline.accAt (fun n h => stAt0 m c n h junk0) (stAt0 m c) 0 73 (lt_of_lt_of_eq (by decide) N_0.symm)).2.2.1 := by
  funext i
  have hi0 : (i 0).val < 1024 := (i 0).isLt
  have hi1 : (i 1).val < 1 := (i 1).isLt
  have hp : pt8Of i = 73 := by
    show 74 * (1 * ((i 0).val / 1024 - 0) + 1 * ((i 1).val / 1 - 0)) + 73 = _
    omega
  have hl : loc8Of i = i := by
    funext a; apply Fin.ext
    match a with
    | ⟨0, _⟩ => show (i 0).val % 1024 = (i 0).val; omega
    | ⟨1, _⟩ => show (i 1).val % 1 = (i 1).val; omega
  unfold G8
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v2_0) = G6 m c
      ∧ r.2.mem ((c : Thread nD τ).loc main_v2_1) = G7 m c
      ∧ r.2.mem ((c : Thread nD τ).loc main_v2_2) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post6 m r h c).trans (final6 m c),
      (post7 m r h c).trans (final7 m c),
      (post8 m r h c).trans (final8 m c),
      kept_main_arg0 m r h c,
      kept_main_arg1 m r h c,
      kept_main_arg2 m r h c,
      kept_main_arg3 m r h c⟩)
    (run_main m ρ)

end Cert.KernelIdeal.Hand.Value

end
-- ==== Proof.Dense.lean ====
/- The words of the compressed weights: positions, shifts, and the dense bytes they make. -/
module
public import Idealize.ShloMosaic.PureOps.Ideal
public import Idealize.ShloMosaic.Lib.BitcastFour
public import Mathlib.Tactic.IntervalCases

@[expose] public section

noncomputable section

namespace Cert.Dense

open Idealize.ShloMosaic

/-- Eight times the two-bit position that lies at bit `bit` of the word. -/
def shAmt (w : BitVec 32) (bit : ℕ) : BitVec 32 :=
  IntOp.andi (if bit < 3 then IntOp.shli .vector w (BitVec.ofNat 32 (3 - bit)) else IntOp.shrui .vector w (BitVec.ofNat 32 (bit - 3))) 24#32

/-- The dense word of one group: two kept bytes of `v`, each moved to its position. -/
def denseWord (v w : BitVec 32) (k h : ℕ) : BitVec 32 :=
  IntOp.ori
    (IntOp.shli .vector (IntOp.andi (IntOp.shrsi .vector v (BitVec.ofNat 32 (16 * h))) 255#32) (shAmt w (8 * k + 4 * h)))
    (IntOp.shli .vector (IntOp.andi (IntOp.shrui .vector v (BitVec.ofNat 32 (16 * h + 8))) 255#32) (shAmt w (8 * k + 4 * h + 2)))

/-- The two-bit position that lies at bit `bit` of the word. -/
def posAt (w : BitVec 32) (bit : ℕ) : ℕ := (w.toNat / 2 ^ bit) % 4

/-- Byte `b` of a word. -/
def byteAt (v : BitVec 32) (b : ℕ) : BitVec 8 := v.extractLsb' (8 * b) 8

theorem shAmt_toNat (w : BitVec 32) (bit : ℕ) (h : bit ≤ 30) : (shAmt w bit).toNat = 8 * posAt w bit := by
  have h24 : ∀ x : ℕ, x &&& 24 = 8 * (x / 8 % 4) := by
    intro x
    apply Nat.eq_of_testBit_eq
    intro i
    have e : 8 * (x / 8 % 4) = 2 ^ 3 * ((x / 2 ^ 3) % 2 ^ 2) := by norm_num
    rw [e, Nat.testBit_and, Nat.testBit_two_pow_mul, Nat.testBit_mod_two_pow, Nat.testBit_div_two_pow]
    by_cases h5 : i < 5
    · interval_cases i <;> simp [Nat.testBit]
    · have : Nat.testBit 24 i = false := Nat.testBit_lt_two_pow (lt_of_lt_of_le (by norm_num : 24 < 2 ^ 5) (Nat.pow_le_pow_right (by norm_num) (by omega)))
      rw [this]
      have : ¬ (i - 3 < 2) := by omega
      simp [this]
  unfold shAmt posAt
  simp only [IntOp.andi, BitVec.toNat_and]
  rw [show (24#32).toNat = 24 from rfl, h24]
  by_cases hb : bit < 3
  · rw [if_pos hb]
    have : (BitVec.ofNat 32 (3 - bit)).toNat = 3 - bit := by rw [BitVec.toNat_ofNat]; omega
    have hw := w.isLt
    simp only [IntOp.shli, this, if_pos (by omega : 3 - bit < 32), BitVec.shiftLeft_eq', BitVec.toNat_shiftLeft, Nat.shiftLeft_eq]
    interval_cases bit <;> norm_num <;> omega
  · rw [if_neg hb]
    have : (BitVec.ofNat 32 (bit - 3)).toNat = bit - 3 := by rw [BitVec.toNat_ofNat]; omega
    simp only [IntOp.shrui, this, if_pos (by omega : bit - 3 < 32), BitVec.ushiftRight_eq', BitVec.toNat_ushiftRight, Nat.shiftRight_eq_div_pow]
    rw [Nat.div_div_eq_div_mul, show 2 ^ (bit - 3) * 8 = 2 ^ bit from by
      rw [show (8 : ℕ) = 2 ^ 3 from rfl, ← pow_add]; congr 1; omega]

theorem posAt_lt (w : BitVec 32) (bit : ℕ) : posAt w bit < 4 := Nat.mod_lt _ (by norm_num)

theorem and255 (x : BitVec 32) : x &&& 255#32 = (x.setWidth 8).setWidth 32 := by
  apply BitVec.eq_of_getLsbD_eq
  intro i hi
  have h255 : (255#32 : BitVec 32).getLsbD i = decide (i < 8) := by
    have : i < 32 := hi
    interval_cases i <;> rfl
  simp only [BitVec.getLsbD_and, h255, BitVec.getLsbD_setWidth]
  by_cases h8 : i < 8 <;> simp [h8]
  intro; omega

theorem low_byte (v : BitVec 32) (h : ℕ) (hh : h < 2) :
    IntOp.andi (IntOp.shrsi .vector v (BitVec.ofNat 32 (16 * h))) 255#32 = (byteAt v (2 * h)).setWidth 32 := by
  have : (BitVec.ofNat 32 (16 * h)).toNat = 16 * h := by rw [BitVec.toNat_ofNat]; omega
  simp only [IntOp.andi, IntOp.shrsi, this, if_pos (by omega : 16 * h < 32), and255, BitVec.sshiftRight_eq', byteAt]
  congr 1
  apply BitVec.eq_of_getLsbD_eq
  intro i hi
  simp only [BitVec.getLsbD_setWidth, BitVec.getLsbD_sshiftRight, BitVec.getLsbD_extractLsb', hi, decide_true, Bool.true_and]
  have : 16 * h + i < 32 := by omega
  rw [if_pos this, show 8 * (2 * h) = 16 * h from by ring]
  simp; omega

theorem high_byte (v : BitVec 32) (h : ℕ) (hh : h < 2) :
    IntOp.andi (IntOp.shrui .vector v (BitVec.ofNat 32 (16 * h + 8))) 255#32 = (byteAt v (2 * h + 1)).setWidth 32 := by
  have : (BitVec.ofNat 32 (16 * h + 8)).toNat = 16 * h + 8 := by rw [BitVec.toNat_ofNat]; omega
  simp only [IntOp.andi, IntOp.shrui, this, if_pos (by omega : 16 * h + 8 < 32), and255, BitVec.ushiftRight_eq', byteAt]
  congr 1
  apply BitVec.eq_of_getLsbD_eq
  intro i hi
  simp only [BitVec.getLsbD_setWidth, BitVec.getLsbD_ushiftRight, BitVec.getLsbD_extractLsb', hi, decide_true, Bool.true_and]
  congr 1; omega

/-- A byte moved to position `p` is byte `p` of the word, and every other byte is zero. -/
theorem moved (x : BitVec 8) (s : BitVec 32) (p b i : ℕ) (hs : s.toNat = 8 * p) (hp : p < 4) (hb : b < 4) (hi : i < 8) :
    (IntOp.shli .vector (x.setWidth 32) s).getLsbD (8 * b + i) = (decide (p = b) && x.getLsbD i) := by
  simp only [IntOp.shli, hs, if_pos (by omega : 8 * p < 32), BitVec.shiftLeft_eq', BitVec.getLsbD_shiftLeft, BitVec.getLsbD_setWidth]
  rcases Nat.lt_trichotomy p b with h | h | h
  · rw [BitVec.getLsbD_of_ge x (8 * b + i - 8 * p) (by omega)]
    simp; omega
  · subst h
    have a1 : 8 * p + i < 32 := by omega
    have a2 : i < 32 := by omega
    rw [show 8 * p + i - 8 * p = i from by omega]
    simp [a1, a2]
  · have : 8 * b + i < 8 * p := by omega
    have : p ≠ b := by omega
    simp [*]

/-- Byte `b` of the dense word: the first kept byte at the first position, the second at the second, else zero. -/
theorem denseWord_byte (v w : BitVec 32) (k h b : ℕ) (hk : k < 4) (hh : h < 2) (hb : b < 4)
    (hne : posAt w (8 * k + 4 * h) ≠ posAt w (8 * k + 4 * h + 2)) :
    byteAt (denseWord v w k h) b = if posAt w (8 * k + 4 * h) = b then byteAt v (2 * h)
      else if posAt w (8 * k + 4 * h + 2) = b then byteAt v (2 * h + 1) else 0#8 := by
  apply BitVec.eq_of_getLsbD_eq
  intro i hi
  unfold byteAt denseWord
  rw [low_byte v h hh, high_byte v h hh, BitVec.getLsbD_extractLsb']
  simp only [hi, decide_true, Bool.true_and, IntOp.ori, BitVec.getLsbD_or]
  rw [moved _ _ (posAt w (8 * k + 4 * h)) b i (shAmt_toNat _ _ (by omega)) (posAt_lt _ _) hb hi,
    moved _ _ (posAt w (8 * k + 4 * h + 2)) b i (shAmt_toNat _ _ (by omega)) (posAt_lt _ _) hb hi]
  by_cases h0 : posAt w (8 * k + 4 * h) = b
  · have h1 : posAt w (8 * k + 4 * h + 2) ≠ b := fun e => hne (h0.trans e.symm)
    simp [h0, h1, byteAt]
  · by_cases h1 : posAt w (8 * k + 4 * h + 2) = b
    · simp [h0, h1, byteAt]
    · simp [h0, h1]

end Cert.Dense

end
-- ==== Proof.KStep.lean ====
/- The branches of the kernel body, and what the loops over the weights leave. -/
module
public import proofs.«01_k».proof.Proof.Gen.KernelIdeal.Loops
public import Idealize.ShloMosaic.Lib.Pipeline.ValueKit
public import Idealize.ShloMosaic.Lib.WholeRead
public import proofs.«01_k».proof.Proof.Dense
@[expose] public section
set_option maxRecDepth 16384
noncomputable section
namespace Cert.KernelIdeal.Hand
open Cert.KernelIdeal Cert.KernelIdeal.Gen Cert.Dense
open Idealize.ShloMosaic Idealize.ShloMosaic.TcCoe Idealize.ShloMosaic.Tactic
variable {F : FTy → Type} [FloatOps F]

theorem sl_rows (n : ℕ) : S448x128.Slices ![32 * (n % 112 / 8), 0] S32x128 := by
  refine ⟨rfl, fun a => ?_⟩
  match a with
  | 0 => show 32 * (n % 112 / 8) + 32 ≤ 448; omega
  | 1 => show 0 + 128 ≤ 128; omega

theorem sl_group (n : ℕ) : S8x4x128.Slices ![0, n % 8 / 2, 0] S8x1x128 := by
  refine ⟨rfl, fun a => ?_⟩
  match a with
  | 0 => show 0 + 8 ≤ 8; omega
  | 1 => show n % 8 / 2 + 1 ≤ 4; omega
  | 2 => show 0 + 128 ≤ 128; omega

/-- The packed kept bytes of step `n` (eight rows of words, one of four words each). -/
def valVec (v : Vec F S1792x128 .i8) (n : ℕ) : IVec S8x128 32 :=
  shapeCast S8x128
    (extractStridedSlice S8x1x128 ![0, n % 8 / 2, 0]
      (shapeCast S8x4x128
        (extractStridedSlice S32x128 ![32 * (n % 112 / 8), 0] (bitcast S448x128 32 v bitcasts_S1792x128_w8_S448x128_w32) (sl_rows n))
        shapeCasts_S32x128_S8x4x128)
      (sl_group n))
    shapeCasts_S8x1x128_S8x128

/-- Eight times the position at bit `bit` of every word. -/
def shVec (w : IVec S8x128 32) (bit : ℕ) : IVec S8x128 32 :=
  andi (if bit < 3 then shli w (broadcast S8x128 (BitVec.ofNat 32 (3 - bit))) else shrui w (broadcast S8x128 (BitVec.ofNat 32 (bit - 3))))
    (broadcast S8x128 24#32)

/-- The dense words of step `n`. -/
def denseVec (v : Vec F S1792x128 .i8) (w : IVec S8x128 32) (n : ℕ) : IVec S8x128 32 :=
  shapeCast S8x128
    (ori
      (shli (andi (shrsi (valVec v n) (broadcast S8x128 (BitVec.ofNat 32 (16 * (n % 2))))) (broadcast S8x128 255#32))
        (shVec w (8 * (n % 8 / 2) + 4 * (n % 2))))
      (shli (andi (shrui (valVec v n) (broadcast S8x128 (BitVec.ofNat 32 (16 * (n % 2) + 8)))) (broadcast S8x128 255#32))
        (shVec w (8 * (n % 8 / 2) + 4 * (n % 2) + 2))))
    shapeCasts_S8x128_S8x128

/-- The rows of one half of the dense words that step `n` stores: every eighth, from row `64 * t + j`. -/
def stepRect (n : ℕ) : Rect S896x128 where
  off := ![64 * (n % 112 / 8) + n % 8, 0]
  size := S8x128.size
  stride := ![8, 1]
  inb a := by
    refine .inr ?_
    match a with
    | 0 => show 64 * (n % 112 / 8) + n % 8 + 8 * (8 - 1) < 896; omega
    | 1 => show 0 + 1 * (128 - 1) < 128; omega
  stride_pos a := by
    match a with
    | 0 => show 0 < 8; omega
    | 1 => show 0 < 1; omega

theorem half_inb (half : Fin 2) : ∀ a, (![half.val, 0, 0] : Fin 3 → ℕ) a + S1x896x128.size a ≤ S2x896x128.size a := by
  revert half; decide

/-- The piece that step `n` of a half stores. -/
def stepPiece (half : Fin 2) (v : Vec F S1792x128 .i8) (w : ℕ → IVec S8x128 32) (n : ℕ) : View.Piece (Elt F) S2x896x128 .i32 :=
  ⟨(Rect.unit (s := S2x896x128) ![half.val, 0, 0] S1x896x128.size (half_inb half)).within
      ((stepRect n).consLift ![1, 896, 128] rfl (by decide)) (fun _ => rfl),
    Rect.payAlong ((stepRect n).numel_consLift ![1, 896, 128] rfl (by decide)) (denseVec v (w (n % 112 / 8)) n)⟩

/-- The pieces of the first `n` steps of a half, the last first, in front of `L`. -/
def stepList (half : Fin 2) (v : Vec F S1792x128 .i8) (w : ℕ → IVec S8x128 32) (L : List (View.Piece (Elt F) S2x896x128 .i32)) :
    ℕ → List (View.Piece (Elt F) S2x896x128 .i32)
  | 0 => L
  | n + 1 => stepPiece half v w n :: stepList half v w L n

theorem words_inb (t : ℕ) : ∀ a, (![8 * (t % 14), 0] : Fin 2 → ℕ) a + S8x128.size a ≤ S112x128.size a := by
  intro a
  match a with
  | 0 => show 8 * (t % 14) + 8 ≤ 112; omega
  | 1 => show 0 + 128 ≤ 128; omega

/-- The loaded index words of rows `8 t` to `8 t + 7`. -/
def wordsOf (arg : Memref sig .tc .vmem S112x128 .i32) (h : arg.IsWhole) (x : Vec F S112x128 .i32) (t : ℕ) : IVec S8x128 32 :=
  View.readAt (Elt F) arg.view (Rect.unit (s := S112x128) ![8 * (t % 14), 0] S8x128.size (words_inb t)).toLoadRect (h.unread x)

/-- The loaded kept bytes. -/
def valsOf (arg : Memref sig .tc .vmem S1792x128 .i8) (h : arg.IsWhole) (x : Vec F S1792x128 .i8) : Vec F S1792x128 .i8 :=
  View.readAt (Elt F) arg.view (Rect.unit (s := S1792x128) ![0, 0] S1792x128.size (by decide)).toLoadRect (h.unread x)

theorem valVec_at (v : Vec F S1792x128 .i8) (n : ℕ) (a : Fin 8) (l : Fin 128) (q : Fin 448) (hq : q.val = 32 * (n % 112 / 8) + 4 * a.val + n % 8 / 2) :
    valVec v n (ix2 a l) = bitcast S448x128 32 v bitcasts_S1792x128_w8_S448x128_w32 (ix2 q l) := by
  obtain ⟨q, hlt⟩ := q
  obtain rfl : q = 32 * (n % 112 / 8) + 4 * a.val + n % 8 / 2 := hq
  unfold valVec
  generalize bitcast S448x128 32 v bitcasts_S1792x128_w8_S448x128_w32 = u
  have h4 : n % 8 / 2 < 4 := by omega
  have e3 : ∀ (b : Fin 4), shapeCast S8x4x128 (extractStridedSlice S32x128 ![32 * (n % 112 / 8), 0] u (sl_rows n)) shapeCasts_S32x128_S8x4x128 (ix3 a b l)
      = u (ix2 ⟨32 * (n % 112 / 8) + (a.val * 4 + b.val), by omega⟩ l) := by
    intro b
    pointwise
  have e1 : shapeCast S8x128
    (extractStridedSlice S8x1x128 ![0, n % 8 / 2, 0]
      (shapeCast S8x4x128 (extractStridedSlice S32x128 ![32 * (n % 112 / 8), 0] u (sl_rows n)) shapeCasts_S32x128_S8x4x128)
      (sl_group n)) shapeCasts_S8x1x128_S8x128 (ix2 a l)
      = shapeCast S8x4x128 (extractStridedSlice S32x128 ![32 * (n % 112 / 8), 0] u (sl_rows n)) shapeCasts_S32x128_S8x4x128 (ix3 a ⟨n % 8 / 2, h4⟩ l) := by
    generalize shapeCast S8x4x128 (extractStridedSlice S32x128 ![32 * (n % 112 / 8), 0] u (sl_rows n)) shapeCasts_S32x128_S8x4x128 = z
    pointwise
  rw [e1, e3]
  congr 2
  apply Fin.ext
  simp only []
  omega

theorem shVec_at (w : IVec S8x128 32) (bit : ℕ) (x : S8x128.Idx) : shVec w bit x = shAmt (w x) bit := by
  unfold shVec shAmt
  by_cases h : bit < 3
  · rw [if_pos h, if_pos h]; rfl
  · rw [if_neg h, if_neg h]; rfl

theorem denseVec_at (v : Vec F S1792x128 .i8) (w : IVec S8x128 32) (n : ℕ) (a : Fin 8) (l : Fin 128) (q : Fin 448)
    (hq : q.val = 32 * (n % 112 / 8) + 4 * a.val + n % 8 / 2) :
    denseVec v w n (ix2 a l)
      = denseWord (bitcast S448x128 32 v bitcasts_S1792x128_w8_S448x128_w32 (ix2 q l)) (w (ix2 a l)) (n % 8 / 2) (n % 2) := by
  unfold denseVec denseWord
  rw [shapeCast_self]
  rw [← valVec_at v n a l q hq, ← shVec_at, ← shVec_at]
  rfl

/-- The dense words of one half of the columns, from its kept bytes and its index words. -/
def wordAt (v : Vec F S1792x128 .i8) (w : Vec F S112x128 .i32) (R : Fin 896) (l : Fin 128) : BitVec 32 :=
  denseWord (bitcast S448x128 32 v bitcasts_S1792x128_w8_S448x128_w32 (ix2 ⟨4 * (R.val / 8) + R.val % 8 / 2, by omega⟩ l))
    (w (ix2 ⟨R.val / 8, by omega⟩ l)) (R.val % 8 / 2) (R.val % 2)

/-- The dense words of both halves. -/
def wordsAt (v₀ v₁ : Vec F S1792x128 .i8) (w₀ w₁ : Vec F S112x128 .i32) (y : S2x896x128.Idx) : BitVec 32 :=
  if (y 0).val = 0 then wordAt v₀ w₀ (y 1) (y 2) else wordAt v₁ w₁ (y 1) (y 2)

theorem step_agree (half : Fin 2) (v : Vec F S1792x128 .i8) (arg : Memref sig .tc .vmem S112x128 .i32) (harg : arg.IsWhole) (w : Vec F S112x128 .i32) (n : ℕ)
    (x : (stepPiece half v (wordsOf arg harg w) n).1.shape.Idx) :
    ((stepPiece half v (wordsOf arg harg w) n).1.emb x 0 : Fin 2) = half ∧
    (stepPiece half v (wordsOf arg harg w) n).2 x
      = wordAt v w ((stepPiece half v (wordsOf arg harg w) n).1.emb x 1) ((stepPiece half v (wordsOf arg harg w) n).1.emb x 2) := by
  have hx0 : (x 0).val < 1 := (x 0).isLt
  have hx1 : (x 1).val < 8 := (x 1).isLt
  have hx2 : (x 2).val < 128 := (x 2).isLt
  have e0 : ((stepPiece half v (wordsOf arg harg w) n).1.emb x 0).val = half.val := by
    refine (Rect.emb_apply _ _ _).trans ?_
    show half.val + 0 + 1 * (x 0).val = half.val
    omega
  have e1 : ((stepPiece half v (wordsOf arg harg w) n).1.emb x 1).val = 64 * (n % 112 / 8) + n % 8 + 8 * (x 1).val := by
    refine (Rect.emb_apply _ _ _).trans ?_
    show 0 + (64 * (n % 112 / 8) + n % 8) + 8 * (x 1).val = _
    omega
  have e2 : ((stepPiece half v (wordsOf arg harg w) n).1.emb x 2).val = (x 2).val := by
    refine (Rect.emb_apply _ _ _).trans ?_
    show 0 + 0 + 1 * (x 2).val = _
    omega
  refine ⟨Fin.ext e0, ?_⟩
  generalize hR : (stepPiece half v (wordsOf arg harg w) n).1.emb x 1 = R at e1 ⊢
  generalize hl : (stepPiece half v (wordsOf arg harg w) n).1.emb x 2 = l at e2 ⊢
  change Fin 896 at R
  change Fin 128 at l
  have ep : (stepPiece half v (wordsOf arg harg w) n).2 x
      = denseVec v (wordsOf arg harg w (n % 112 / 8)) n (ix2 ⟨(x 1).val, hx1⟩ l) := by
    refine Rect.payAlong_consLift (r := stepRect n) ![1, 896, 128] rfl (by decide) (denseVec v (wordsOf arg harg w (n % 112 / 8)) n)
      _ x (ix2 ⟨(x 1).val, hx1⟩ l) fun i => ?_
    match i with
    | 0 => rfl
    | 1 => exact e2
  rw [ep, denseVec_at v _ n _ l ⟨4 * (R.val / 8) + R.val % 8 / 2, by have := R.isLt; omega⟩ (by show 4 * (R.val / 8) + R.val % 8 / 2 = 32 * (n % 112 / 8) + 4 * (x 1).val + n % 8 / 2; omega)]
  unfold wordAt
  have ew : wordsOf arg harg w (n % 112 / 8) (ix2 ⟨(x 1).val, hx1⟩ l) = w (ix2 ⟨R.val / 8, by have := R.isLt; omega⟩ l) := by
    unfold wordsOf
    rw [Memref.IsWhole.readAt_unread]
    refine congrArg w (funext fun d => Fin.ext ?_)
    match d with
    | 0 => show 8 * (n % 112 / 8 % 14) + 1 * (x 1).val = R.val / 8; omega
    | 1 => show 0 + 1 * l.val = l.val; omega
  have ek : R.val % 8 / 2 = n % 8 / 2 := by omega
  have eh : R.val % 2 = n % 2 := by omega
  simp only [ew, ek, eh]

theorem vals_eq (arg : Memref sig .tc .vmem S1792x128 .i8) (h : arg.IsWhole) (x : Vec F S1792x128 .i8) : valsOf arg h x = x := by
  unfold valsOf
  funext y
  rw [Memref.IsWhole.readAt_unread]
  refine congrArg x (funext fun d => Fin.ext ?_)
  match d with
  | 0 => show 0 + 1 * (y 0).val = (y 0).val; omega
  | 1 => show 0 + 1 * (y 1).val = (y 1).val; omega

theorem stepList_agree (half : Fin 2) (v : Vec F S1792x128 .i8) (arg : Memref sig .tc .vmem S112x128 .i32) (harg : arg.IsWhole) (w : Vec F S112x128 .i32)
    (D : S2x896x128.Idx → BitVec 32) (hD : ∀ y : S2x896x128.Idx, y 0 = half → D y = wordAt v w (y 1) (y 2)) (L : List (View.Piece (Elt F) S2x896x128 .i32))
    (hL : ∀ p ∈ L, ∀ x, p.2 x = D (p.1.emb x)) :
    ∀ n, ∀ p ∈ stepList half v (wordsOf arg harg w) L n, ∀ x, p.2 x = D (p.1.emb x)
  | 0 => hL
  | n + 1 => by
    intro p hp
    rcases List.mem_cons.1 hp with rfl | hp
    · intro x
      obtain ⟨h0, h1⟩ := step_agree half v arg harg w n x
      rw [hD _ h0]
      exact h1
    · exact stepList_agree half v arg harg w D hD L hL n p hp

theorem mem_stepList (half : Fin 2) (v : Vec F S1792x128 .i8) (w : ℕ → IVec S8x128 32) (L : List (View.Piece (Elt F) S2x896x128 .i32)) :
    ∀ n m, m < n → stepPiece half v w m ∈ stepList half v w L n
  | 0, _, h => absurd h (Nat.not_lt_zero _)
  | n + 1, m, h => by
    rcases Nat.lt_succ_iff_lt_or_eq.1 h with h | rfl
    · exact List.mem_cons_of_mem _ (mem_stepList half v w L n m h)
    · exact List.mem_cons_self

theorem mem_stepList_of_mem (half : Fin 2) (v : Vec F S1792x128 .i8) (w : ℕ → IVec S8x128 32) (L : List (View.Piece (Elt F) S2x896x128 .i32))
    (p : View.Piece (Elt F) S2x896x128 .i32) (hp : p ∈ L) : ∀ n, p ∈ stepList half v w L n
  | 0 => hp
  | n + 1 => List.mem_cons_of_mem _ (mem_stepList_of_mem half v w L p hp n)

/-- Step `8 * (R / 64) + R % 8` of a half stores row `R`. -/
theorem step_covers (half : Fin 2) (v : Vec F S1792x128 .i8) (w : ℕ → IVec S8x128 32) (y : S2x896x128.Idx) (hy : y 0 = half) :
    ∃ m, m < 112 ∧ y ∈ (stepPiece half v w m).1.set := by
  have h1 : (y 1).val < 896 := (y 1).isLt
  have h2 : (y 2).val < 128 := (y 2).isLt
  refine ⟨8 * ((y 1).val / 64) + (y 1).val % 8, by omega, ?_⟩
  generalize hm : 8 * ((y 1).val / 64) + (y 1).val % 8 = m
  have hx : ∃ x, (stepPiece half v w m).1.emb x = y := by
    refine ⟨fun d => match d with
      | 0 => (⟨0, Nat.one_pos⟩ : Fin 1)
      | 1 => (⟨(y 1).val % 64 / 8, by omega⟩ : Fin 8)
      | 2 => (⟨(y 2).val, h2⟩ : Fin 128), ?_⟩
    funext d
    apply Fin.ext
    refine (Rect.emb_apply _ _ _).trans ?_
    match d with
    | 0 => show half.val + 0 + 1 * 0 = (y 0).val; rw [hy]; omega
    | 1 => show 0 + (64 * (m % 112 / 8) + m % 8) + 8 * ((y 1).val % 64 / 8) = (y 1).val; omega
    | 2 => show 0 + 0 + 1 * (y 2).val = (y 2).val; omega
  obtain ⟨x, rfl⟩ := hx
  rw [← Rect.map_emb_univ]; exact Finset.mem_map_of_mem _ (Finset.mem_univ x)

/-- All the stores of the dense words, the last first. -/
def denseList (v₀ v₁ : Vec F S1792x128 .i8) (w₀ w₁ : ℕ → IVec S8x128 32) : List (View.Piece (Elt F) S2x896x128 .i32) :=
  stepList 1 v₁ w₁ (stepList 0 v₀ w₀ [] 112) 112

/-- A box of the dense words read after all the stores. -/
theorem dense_read (arg4 : Memref sig .tc .vmem S112x128 .i32) (harg4 : arg4.IsWhole) (arg5 : Memref sig .tc .vmem S112x128 .i32) (harg5 : arg5.IsWhole)
    (v₀ v₁ : Vec F S1792x128 .i8) (w₀ w₁ : Vec F S112x128 .i32) (vw : View sig .tc .vmem S2x896x128 .i32) (B : LoadRect S2x896x128) (x : B.shape.Idx) :
    vw.readCov (Val := Elt F) (denseList v₀ v₁ (wordsOf arg4 harg4 w₀) (wordsOf arg5 harg5 w₁)) B x = wordsAt v₀ v₁ w₀ w₁ (B.idx x) := by
  rw [View.readCov_eq_canon']
  refine View.canon_apply_of_pieces (Val := Elt F) (S := S2x896x128) (e := .i32) (wordsAt v₀ v₁ w₀ w₁) _ ?_ _ ?_
  · refine stepList_agree 1 v₁ arg5 harg5 w₁ _ (fun y hy => ?_) _ (stepList_agree 0 v₀ arg4 harg4 w₀ _ (fun y hy => ?_) _ (fun p hp => absurd hp List.not_mem_nil) 112) 112
    · unfold wordsAt; rw [if_neg (by rw [hy]; decide)]
    · unfold wordsAt; rw [if_pos (by rw [hy]; rfl)]
  · have hh : ∀ h : Fin 2, h = 0 ∨ h = 1 := by decide
    rcases hh (B.idx x 0) with h | h
    · obtain ⟨m, hm, hy⟩ := step_covers 0 v₀ (wordsOf arg4 harg4 w₀) (B.idx x) h
      exact ⟨_, mem_stepList_of_mem _ _ _ _ _ (mem_stepList _ _ _ _ _ _ hm) _, hy⟩
    · obtain ⟨m, hm, hy⟩ := step_covers 1 v₁ (wordsOf arg5 harg5 w₁) (B.idx x) h
      exact ⟨_, mem_stepList _ _ _ _ _ _ hm, hy⟩

end Cert.KernelIdeal.Hand
end
-- ==== Proof.Quant.lean ====
/- Facts of numbers that the quantiser needs: powers of two, their search, divisions by them. -/
module
public import Idealize.ShloMosaic.PureOps.Ideal
public import Idealize.ShloMosaic.PureOps.Ideal.Laws
public import Mathlib.Algebra.Order.Archimedean.Basic
public import Mathlib.Analysis.SpecialFunctions.Pow.Real

@[expose] public section

noncomputable section

namespace Cert.Quant

open Idealize.ShloMosaic

variable {F : FTy → Type} [FloatOps F]

/-- One step of the search for the exponent field of `v`: the bit is kept when the power of two that the field with it
    names is at most `v`. -/
def stepF (v : F .f32) (field bit : BitVec 32) : BitVec 32 :=
  Scalar.select (FloatOps.cmpf .oge v (FloatOps.ofBits .f32 (IntOp.shli .vector (IntOp.ori field bit) 23#32)))
    (IntOp.ori field bit) field

/-- The exponent field of `v`, bit by bit from the top. -/
def fieldF (v : F .f32) : BitVec 32 :=
  stepF v (stepF v (stepF v (stepF v (stepF v (stepF v (stepF v (stepF v 0#32 128#32) 64#32) 32#32) 16#32) 8#32) 4#32)
    2#32) 1#32

/-- The exponent of the scale: zero where the field is that of zero or of infinity. -/
def expF (v : F .f32) : BitVec 32 :=
  Scalar.select (IntOp.ori (IntOp.cmpi .eq (fieldF v) 0#32) (IntOp.cmpi .eq (fieldF v) 255#32)) 0#32
    (IntOp.subi (fieldF v) 126#32)

/-- The scale that the kernel computes from `v`. -/
def scaleF (v : F .f32) : F .f32 :=
  FloatOps.ofBits .f32 (IntOp.shli .vector (IntOp.addi 127#32 (expF v)) 23#32)

/-- The inverse of the scale that the kernel computes from `v`. -/
def invF (v : F .f32) : F .f32 :=
  FloatOps.ofBits .f32 (IntOp.shli .vector (IntOp.subi 127#32 (expF v)) 23#32)

/-- The number that the exponent field `n` with a zero fraction denotes. -/
def pw (n : ℕ) : EReal := Ideal.ofBits .f32 (BitVec.ofNat 32 (n * 2 ^ 23))

theorem bits_ex : ∀ n : Fin 256, ((BitVec.ofNat 32 (n.val * 2 ^ 23)).extractLsb' 23 8).toNat = n.val := by decide +kernel
theorem bits_fr : ∀ n : Fin 256, ((BitVec.ofNat 32 (n.val * 2 ^ 23)).extractLsb' 0 23).toNat = 0 := by decide +kernel
theorem bits_sg : ∀ n : Fin 256, ((BitVec.ofNat 32 (n.val * 2 ^ 23)).extractLsb' 31 1 == 1#1) = false := by decide +kernel

theorem pw_zero : pw 0 = 0 := by simp [pw, Ideal.ofBits, Ideal.ieee]
theorem pw_top : pw 255 = ⊤ := by
  have h1 := bits_ex 255; have h2 := bits_fr 255; have h3 := bits_sg 255
  unfold pw Ideal.ofBits Ideal.ieee
  simp
theorem pw_mid (n : ℕ) (h1 : 1 ≤ n) (h2 : n ≤ 254) : pw n = (((2 : ℝ) ^ ((n : ℤ) - 127) : ℝ) : EReal) := by
  have e1 := bits_ex ⟨n, by omega⟩; have e2 := bits_fr ⟨n, by omega⟩; have e3 := bits_sg ⟨n, by omega⟩
  dsimp only at e1 e2 e3
  unfold pw Ideal.ofBits Ideal.ieee
  simp only [e1, e2, e3]
  rw [if_neg (by omega), if_neg (by omega)]
  congr 1
  have : ((n : ℤ) - 127) = 23 + ((n : ℤ) - (2 ^ (8 - 1) - 1) - (23 : ℕ)) := by norm_num
  rw [this, zpow_add₀ (by norm_num)]
  norm_num

theorem pw_lt {a b : ℕ} (h : a < b) (hb : b ≤ 255) : pw a < pw b := by
  rcases Nat.eq_zero_or_pos a with rfl | ha
  · rw [pw_zero]
    rcases Nat.lt_or_ge b 255 with h' | h'
    · rw [pw_mid b (by omega) (by omega)]; exact_mod_cast (by positivity)
    · obtain rfl : b = 255 := by omega
      rw [pw_top]; exact EReal.zero_lt_top
  · rw [pw_mid a ha (by omega)]
    rcases Nat.lt_or_ge b 255 with h' | h'
    · rw [pw_mid b (by omega) (by omega)]
      exact EReal.coe_lt_coe_iff.mpr (zpow_lt_zpow_right₀ (by norm_num) (by omega))
    · obtain rfl : b = 255 := by omega
      rw [pw_top]; exact EReal.coe_lt_top _

theorem pw_le {a b : ℕ} (h : a ≤ b) (hb : b ≤ 255) : pw a ≤ pw b := by
  rcases h.lt_or_eq with h | rfl
  · exact (pw_lt h hb).le
  · exact le_rfl

/-- The field `n` with the lower bit `2 ^ j` is `n + 2 ^ j`. -/
theorem or_bit : ∀ (q : Fin 128) (j : Fin 8), q.val * 2 ^ (j.val + 1) < 256 →
    IntOp.ori (BitVec.ofNat 32 (q.val * 2 ^ (j.val + 1))) (BitVec.ofNat 32 (2 ^ j.val))
      = BitVec.ofNat 32 (q.val * 2 ^ (j.val + 1) + 2 ^ j.val) := by decide +kernel

theorem shl_field : ∀ n : Fin 256, IntOp.shli .vector (BitVec.ofNat 32 n.val) 23#32 = BitVec.ofNat 32 (n.val * 2 ^ 23) := by
  decide +kernel

theorem ofBits_field (n : ℕ) (h : n < 256) :
    Ideal.ofBits .f32 (IntOp.shli .vector (BitVec.ofNat 32 n) 23#32) = pw n := by
  have := shl_field ⟨n, h⟩
  dsimp only at this
  rw [this]; rfl

/-- One step narrows the field to within the bit below. -/
theorem stepF_spec (v : Ideal .f32) (q j : ℕ) (hj : j < 8) (hq : q * 2 ^ (j + 1) < 256)
    (hlo : pw (q * 2 ^ (j + 1)) ≤ v) (hhi : ∀ n, q * 2 ^ (j + 1) + 2 ^ (j + 1) ≤ n → n < 256 → v < pw n) :
    ∃ q', q' * 2 ^ j < 256 ∧
      stepF v (BitVec.ofNat 32 (q * 2 ^ (j + 1))) (BitVec.ofNat 32 (2 ^ j)) = BitVec.ofNat 32 (q' * 2 ^ j) ∧
      pw (q' * 2 ^ j) ≤ v ∧ ∀ n, q' * 2 ^ j + 2 ^ j ≤ n → n < 256 → v < pw n := by
  have hp : 0 < 2 ^ j := by positivity
  have e2 : 2 ^ (j + 1) = 2 * 2 ^ j := by ring
  have hq' : q < 128 := by
    by_contra hc
    have : 128 * 2 ≤ q * 2 ^ (j + 1) := Nat.mul_le_mul (by omega) (by rw [e2]; omega)
    omega
  have hob := or_bit ⟨q, hq'⟩ ⟨j, hj⟩ hq
  dsimp only at hob
  have hlt : q * 2 ^ (j + 1) + 2 ^ j < 256 := by
    have h8 : 2 ^ (8 - (j + 1)) * 2 ^ (j + 1) = 256 := by rw [← pow_add, show 8 - (j + 1) + (j + 1) = 8 by omega]; norm_num
    have : q < 2 ^ (8 - (j + 1)) := by
      by_contra hc
      have := Nat.mul_le_mul_right (2 ^ (j + 1)) (not_lt.mp hc)
      omega
    have := Nat.mul_le_mul_right (2 ^ (j + 1)) (Nat.succ_le_of_lt this)
    rw [Nat.succ_mul] at this
    omega
  have ee : q * 2 ^ (j + 1) + 2 ^ j = (2 * q + 1) * 2 ^ j := by rw [e2]; ring
  have ee0 : q * 2 ^ (j + 1) = (2 * q) * 2 ^ j := by rw [e2]; ring
  unfold stepF
  rw [hob]
  have hb : FloatOps.ofBits (F := Ideal) .f32 (IntOp.shli .vector (BitVec.ofNat 32 (q * 2 ^ (j + 1) + 2 ^ j)) 23#32)
      = pw (q * 2 ^ (j + 1) + 2 ^ j) := ofBits_field _ hlt
  rw [hb]
  by_cases hc : pw (q * 2 ^ (j + 1) + 2 ^ j) ≤ v
  · refine ⟨2 * q + 1, by omega, ?_, by rw [← ee]; exact hc, fun n h1 h2 => hhi n (by omega) h2⟩
    have : FloatOps.cmpf (F := Ideal) .oge v (pw (q * 2 ^ (j + 1) + 2 ^ j)) = 1#1 := by
      show Ideal.cmp .oge v _ = 1#1
      simp [Ideal.cmp, hc]
    rw [this, ← ee]; rfl
  · refine ⟨2 * q, by omega, ?_, by rw [← ee0]; exact hlo, fun n h1 h2 => ?_⟩
    · have : FloatOps.cmpf (F := Ideal) .oge v (pw (q * 2 ^ (j + 1) + 2 ^ j)) = 0#1 := by
        show Ideal.cmp .oge v _ = 0#1
        simp [Ideal.cmp, hc]
      rw [this, ← ee0]; rfl
    · exact lt_of_lt_of_le (not_le.mp hc) (pw_le (by omega) (by omega))

/-- The search finds the field: the greatest one whose power of two is at most `v`. -/
theorem fieldF_spec (v : Ideal .f32) (h0 : 0 ≤ v) :
    ∃ n, n < 256 ∧ fieldF v = BitVec.ofNat 32 n ∧ pw n ≤ v ∧ ∀ k, n < k → k < 256 → v < pw k := by
  obtain ⟨q7, a7, b7, c7, d7⟩ := stepF_spec v 0 7 (by omega) (by omega) (by simpa [pw_zero] using h0) (fun n h1 h2 => by omega)
  obtain ⟨q6, a6, b6, c6, d6⟩ := stepF_spec v q7 6 (by omega) a7 c7 d7
  obtain ⟨q5, a5, b5, c5, d5⟩ := stepF_spec v q6 5 (by omega) a6 c6 d6
  obtain ⟨q4, a4, b4, c4, d4⟩ := stepF_spec v q5 4 (by omega) a5 c5 d5
  obtain ⟨q3, a3, b3, c3, d3⟩ := stepF_spec v q4 3 (by omega) a4 c4 d4
  obtain ⟨q2, a2, b2, c2, d2⟩ := stepF_spec v q3 2 (by omega) a3 c3 d3
  obtain ⟨q1, a1, b1, c1, d1⟩ := stepF_spec v q2 1 (by omega) a2 c2 d2
  obtain ⟨q0, aa, bb, cc, dd⟩ := stepF_spec v q1 0 (by omega) a1 c1 d1
  refine ⟨q0 * 2 ^ 0, aa, ?_, cc, fun k hk hk' => dd k (by omega) hk'⟩
  simp only [Nat.reduceAdd, Nat.reducePow, Nat.zero_mul] at b7 b6 b5 b4 b3 b2 b1 bb
  unfold fieldF
  rw [b7, b6, b5, b4, b3, b2, b1, bb]
  norm_num

theorem fieldF_of (v : Ideal .f32) (n : ℕ) (hn : n < 256) (h : pw n ≤ v) (h' : ∀ k, n < k → k < 256 → v < pw k) :
    fieldF v = BitVec.ofNat 32 n := by
  have h0 : 0 ≤ v := by
    refine le_trans ?_ h
    rw [← pw_zero]; exact pw_le (Nat.zero_le _) (by omega)
  obtain ⟨m, hm, e, a, b⟩ := fieldF_spec v h0
  rcases lt_trichotomy m n with hlt | rfl | hlt
  · exact absurd h (not_le.mpr (b n hlt hn))
  · exact e
  · exact absurd a (not_le.mpr (h' m hlt hm))

theorem expF_mid : ∀ n : Fin 253, 1 ≤ n.val →
    (Scalar.select (IntOp.ori (IntOp.cmpi .eq (BitVec.ofNat 32 n.val) 0#32) (IntOp.cmpi .eq (BitVec.ofNat 32 n.val) 255#32)) 0#32
      (IntOp.subi (BitVec.ofNat 32 n.val) 126#32) : BitVec 32) = BitVec.ofNat 32 n.val - 126#32 := by decide +kernel

theorem add_field : ∀ n : Fin 253, 1 ≤ n.val → IntOp.addi 127#32 (BitVec.ofNat 32 n.val - 126#32) = BitVec.ofNat 32 (n.val + 1) := by
  decide +kernel
theorem sub_field : ∀ n : Fin 253, 1 ≤ n.val → IntOp.subi 127#32 (BitVec.ofNat 32 n.val - 126#32) = BitVec.ofNat 32 (253 - n.val) := by
  decide +kernel

/-- For `v` of the binade of field `n`, the scale is the power of two above the binade and the other is its inverse. -/
theorem scale_mid (v : Ideal .f32) (n : ℕ) (h1 : 1 ≤ n) (h2 : n ≤ 252)
    (lo : (((2 : ℝ) ^ ((n : ℤ) - 127) : ℝ) : EReal) ≤ v) (hi : v < (((2 : ℝ) ^ ((n : ℤ) - 126) : ℝ) : EReal)) :
    scaleF v = (((2 : ℝ) ^ ((n : ℤ) - 126) : ℝ) : EReal) ∧ invF v = (((2 : ℝ) ^ (126 - (n : ℤ)) : ℝ) : EReal) := by
  have hf : fieldF v = BitVec.ofNat 32 n := by
    refine fieldF_of v n (by omega) (by rw [pw_mid n h1 (by omega)]; exact lo) fun k hk hk' => ?_
    refine lt_of_lt_of_le hi (le_trans (le_of_eq ?_) (pw_le (a := n + 1) hk (by omega)))
    rw [pw_mid (n + 1) (by omega) (by omega)]
    congr 2; push_cast; ring
  have he : expF v = BitVec.ofNat 32 n - 126#32 := by
    unfold expF; rw [hf]; exact expF_mid ⟨n, by omega⟩ h1
  have ha := add_field ⟨n, by omega⟩ h1
  have hs := sub_field ⟨n, by omega⟩ h1
  dsimp only at ha hs
  constructor
  · unfold scaleF
    rw [he, ha]
    refine (ofBits_field _ (by omega)).trans ?_
    rw [pw_mid _ (by omega) (by omega)]
    congr 2; push_cast; ring
  · unfold invF
    rw [he, hs]
    refine (ofBits_field _ (by omega)).trans ?_
    rw [pw_mid _ (by omega) (by omega)]
    congr 2; push_cast [Nat.cast_sub (show n ≤ 253 by omega)]; ring

theorem pw_127 : pw 127 = 1 := by rw [pw_mid 127 (by omega) (by omega)]; simp

theorem scale_of_exp (v : Ideal .f32) (he : expF v = 0#32) : scaleF v = 1 ∧ invF v = 1 := by
  have ha : IntOp.addi 127#32 0#32 = BitVec.ofNat 32 127 := by decide
  have hs : IntOp.subi 127#32 0#32 = BitVec.ofNat 32 127 := by decide
  constructor
  · unfold scaleF; rw [he, ha]; exact (ofBits_field _ (by omega)).trans pw_127
  · unfold invF; rw [he, hs]; exact (ofBits_field _ (by omega)).trans pw_127

/-- Below the least normal number, and at infinity, both are one. -/
theorem scale_small (v : Ideal .f32) (h0 : 0 ≤ v) (h : v < (((2 : ℝ) ^ (-126 : ℤ) : ℝ) : EReal)) : scaleF v = 1 ∧ invF v = 1 := by
  have hf : fieldF v = BitVec.ofNat 32 0 := by
    refine fieldF_of v 0 (by omega) (by rw [pw_zero]; exact h0) fun k hk hk' => ?_
    refine lt_of_lt_of_le h (le_trans (le_of_eq ?_) (pw_le (a := 1) hk (by omega)))
    rw [pw_mid 1 (by omega) (by omega)]; congr 2
  exact scale_of_exp v (by unfold expF; rw [hf]; decide)

theorem scale_top : scaleF (F := Ideal) (⊤ : EReal) = 1 ∧ invF (F := Ideal) (⊤ : EReal) = 1 := by
  have hf : fieldF (F := Ideal) (⊤ : EReal) = BitVec.ofNat 32 255 :=
    fieldF_of _ 255 (by omega) le_top fun k hk hk' => by omega
  exact scale_of_exp _ (by unfold expF; rw [hf]; decide)

/-- Every `v` from the least normal number up to `2 ^ 126` lies in one of these binades. -/
theorem binade (r : ℝ) (h : (2 : ℝ) ^ (-126 : ℤ) ≤ r) (h' : r < (2 : ℝ) ^ (126 : ℤ)) :
    ∃ n : ℕ, 1 ≤ n ∧ n ≤ 252 ∧ (2 : ℝ) ^ ((n : ℤ) - 127) ≤ r ∧ r < (2 : ℝ) ^ ((n : ℤ) - 126) := by
  have hr : 0 < r := lt_of_lt_of_le (by positivity) h
  obtain ⟨e, h1, h2⟩ := exists_mem_Ico_zpow (y := (2 : ℝ)) hr (by norm_num)
  have g1 : -126 < e + 1 := (zpow_lt_zpow_iff_right₀ (by norm_num : (1 : ℝ) < 2)).mp (lt_of_le_of_lt h h2)
  have g2 : e < 126 := (zpow_lt_zpow_iff_right₀ (by norm_num : (1 : ℝ) < 2)).mp (lt_of_le_of_lt h1 h')
  refine ⟨(e + 127).toNat, by omega, by omega, ?_, ?_⟩
  · rw [Int.toNat_of_nonneg (by omega)]; simpa using h1
  · rw [Int.toNat_of_nonneg (by omega)]; rw [show e + 127 - 126 = e + 1 by ring]; exact h2

end Cert.Quant
end
-- ==== Proof.KQuant.lean ====
/- The quantiser of the kernel, read at the exact numbers. -/
module
public import proofs.«01_k».proof.Proof.Gen.KernelIdeal.Loops
public import Idealize.ShloMosaic.Lib.Pipeline.ValueKit
public import Idealize.ShloMosaic.Lib.WholeRead
public import proofs.«01_k».proof.Proof.Quant
@[expose] public section
set_option maxRecDepth 16384
noncomputable section
namespace Cert.KernelIdeal.Hand
open Cert.KernelIdeal Cert.KernelIdeal.Gen Cert.Quant
open Idealize.ShloMosaic Idealize.ShloMosaic.TcCoe Idealize.ShloMosaic.Tactic

/-- The absolute value at the ideal reading. -/
abbrev eabs (x : EReal) : EReal := FloatOps.absf (F := Ideal) (φ := .bf16) x

/-- The scale's argument of one row: the greatest magnitude times the constant `1/448`. -/
def rowArg (f : Fin 3584 → EReal) : EReal :=
  (Finset.univ.sup fun c => eabs (f c)) * Ideal.ofBits .f32 0x3B124925#32

/-- The scale of a row. -/
def scaleE (f : Fin 3584 → EReal) : EReal := scaleF (F := Ideal) (rowArg f)

/-- The inverse scale of a row. -/
def invE (f : Fin 3584 → EReal) : EReal := invF (F := Ideal) (rowArg f)

/-- The code of `x` in a row whose inverse scale is `s`. -/
def codeOf (x s : EReal) : EReal :=
  min (Ideal.ofBits .f32 0x43E00000#32) (max (Ideal.ofBits .f32 0xC3E00000#32) (x * s))

theorem fold_max_eq_sup {ι : Type} [Fintype ι] (f : ι → EReal) :
    (Finset.univ : Finset ι).fold max (FloatOps.ofBits (F := Ideal) .f32 0xFF800000#32) f = Finset.univ.sup f := by
  have : (FloatOps.ofBits (F := Ideal) .f32 0xFF800000#32) = (⊥ : EReal) := by
    show Ideal.ofBits .f32 0xFF800000#32 = ⊥
    simp [Ideal.ofBits, Ideal.ieee]
  rw [this]; rfl

/-- The greatest of a row from its 28 blocks of 128 lanes. -/
theorem sup_blocks (g : Fin 3584 → EReal) :
    (Finset.univ.sup fun l : Fin 128 => Finset.univ.sup fun q : Fin 28 => g ⟨128 * q.val + l.val, by omega⟩) = Finset.univ.sup g := by
  apply le_antisymm
  · exact Finset.sup_le fun l _ => Finset.sup_le fun q _ => Finset.le_sup (f := g) (Finset.mem_univ _)
  · refine Finset.sup_le fun c _ => ?_
    have h1 := Finset.le_sup (f := fun q : Fin 28 => g ⟨128 * q.val + c.val % 128, by omega⟩) (Finset.mem_univ ⟨c.val / 128, by omega⟩)
    have h2 := Finset.le_sup (f := fun l : Fin 128 => Finset.univ.sup fun q : Fin 28 => g ⟨128 * q.val + l.val, by omega⟩)
      (Finset.mem_univ ⟨c.val % 128, by omega⟩)
    refine le_trans (le_of_eq ?_) (le_trans h1 h2)
    congr 1; apply Fin.ext; show c.val = 128 * (c.val / 128) + c.val % 128; omega

/-- Where a block of unit stride puts its index, its offsets in closed form. -/
theorem unit_val {S : Shape} {off off' : Fin S.rank → ℕ} (h : off = off') (size : Fin S.rank → ℕ) (inb : ∀ a, off a + size a ≤ S.size a)
    (x : (Rect.unit off size inb).shape.Idx) (a : Fin S.rank) : ((Rect.unit off size inb).emb x a : ℕ) = off' a + (x a : ℕ) := by
  subst h
  rw [Rect.emb_apply]; show off a + 1 * (x a : ℕ) = _; omega

variable (ch : Vec Ideal S32x3584 .bf16)

/-- The vector of the rows' scale arguments as the printed operations compute it. -/
abbrev argVec : FVec Ideal S32x1 .f32 :=
  k0_pay34 (k0_pay17 ch) (k0_pay18 ch) (k0_pay19 ch) (k0_pay20 ch) (k0_pay21 ch) (k0_pay22 ch) (k0_pay23 ch) (k0_pay24 ch)
    (k0_pay25 ch) (k0_pay26 ch) (k0_pay27 ch) (k0_pay28 ch) (k0_pay29 ch) (k0_pay30 ch) (k0_pay31 ch) (k0_pay32 ch) (k0_pay33 ch)

/-- A block of 128 columns cut from the loaded rows, at an index. -/
theorem slice_apply (off : ℕ) (h : S32x3584.Slices ![0, off] S32x128) (a : Fin 32) (l : Fin 128) (c : Fin 3584)
    (hc : c.val = off + l.val) : extractStridedSlice S32x128 ![0, off] (k0_pay3 ch) h (ix2 a l) = ch (ix2 a c) := by
  obtain ⟨c, hlt⟩ := c
  obtain rfl : c = off + l.val := hc
  unfold k0_pay3
  pointwise

theorem pay4_at (a : Fin 32) (l : Fin 128) (c : Fin 3584) (hc : c.val = 0 + l.val) : k0_pay4 ch (ix2 a l) = ch (ix2 a c) :=
  slice_apply ch 0 slices_S32x3584_o0_0_S32x128 a l c hc
theorem pay5_at (a : Fin 32) (l : Fin 128) (c : Fin 3584) (hc : c.val = 128 + l.val) : k0_pay5 ch (ix2 a l) = ch (ix2 a c) :=
  slice_apply ch 128 slices_S32x3584_o0_128_S32x128 a l c hc
theorem pay6_at (a : Fin 32) (l : Fin 128) (c : Fin 3584) (hc : c.val = 256 + l.val) : k0_pay6 ch (ix2 a l) = ch (ix2 a c) :=
  slice_apply ch 256 slices_S32x3584_o0_256_S32x128 a l c hc
theorem pay7_at (a : Fin 32) (l : Fin 128) (c : Fin 3584) (hc : c.val = 384 + l.val) : k0_pay7 ch (ix2 a l) = ch (ix2 a c) :=
  slice_apply ch 384 slices_S32x3584_o0_384_S32x128 a l c hc
theorem pay8_at (a : Fin 32) (l : Fin 128) (c : Fin 3584) (hc : c.val = 512 + l.val) : k0_pay8 ch (ix2 a l) = ch (ix2 a c) :=
  slice_apply ch 512 slices_S32x3584_o0_512_S32x128 a l c hc
theorem pay9_at (a : Fin 32) (l : Fin 128) (c : Fin 3584) (hc : c.val = 640 + l.val) : k0_pay9 ch (ix2 a l) = ch (ix2 a c) :=
  slice_apply ch 640 slices_S32x3584_o0_640_S32x128 a l c hc
theorem pay10_at (a : Fin 32) (l : Fin 128) (c : Fin 3584) (hc : c.val = 768 + l.val) : k0_pay10 ch (ix2 a l) = ch (ix2 a c) :=
  slice_apply ch 768 slices_S32x3584_o0_768_S32x128 a l c hc
theorem pay11_at (a : Fin 32) (l : Fin 128) (c : Fin 3584) (hc : c.val = 896 + l.val) : k0_pay11 ch (ix2 a l) = ch (ix2 a c) :=
  slice_apply ch 896 slices_S32x3584_o0_896_S32x128 a l c hc
theorem pay12_at (a : Fin 32) (l : Fin 128) (c : Fin 3584) (hc : c.val = 1024 + l.val) : k0_pay12 ch (ix2 a l) = ch (ix2 a c) :=
  slice_apply ch 1024 slices_S32x3584_o0_1024_S32x128 a l c hc
theorem pay13_at (a : Fin 32) (l : Fin 128) (c : Fin 3584) (hc : c.val = 1152 + l.val) : k0_pay13 ch (ix2 a l) = ch (ix2 a c) :=
  slice_apply ch 1152 slices_S32x3584_o0_1152_S32x128 a l c hc
theorem pay14_at (a : Fin 32) (l : Fin 128) (c : Fin 3584) (hc : c.val = 1280 + l.val) : k0_pay14 ch (ix2 a l) = ch (ix2 a c) :=
  slice_apply ch 1280 slices_S32x3584_o0_1280_S32x128 a l c hc
theorem pay15_at (a : Fin 32) (l : Fin 128) (c : Fin 3584) (hc : c.val = 1408 + l.val) : k0_pay15 ch (ix2 a l) = ch (ix2 a c) :=
  slice_apply ch 1408 slices_S32x3584_o0_1408_S32x128 a l c hc
theorem pay16_at (a : Fin 32) (l : Fin 128) (c : Fin 3584) (hc : c.val = 1536 + l.val) : k0_pay16 ch (ix2 a l) = ch (ix2 a c) :=
  slice_apply ch 1536 slices_S32x3584_o0_1536_S32x128 a l c hc
theorem pay17_at (a : Fin 32) (l : Fin 128) (c : Fin 3584) (hc : c.val = 1664 + l.val) : k0_pay17 ch (ix2 a l) = ch (ix2 a c) :=
  slice_apply ch 1664 slices_S32x3584_o0_1664_S32x128 a l c hc
theorem pay18_at (a : Fin 32) (l : Fin 128) (c : Fin 3584) (hc : c.val = 1792 + l.val) : k0_pay18 ch (ix2 a l) = ch (ix2 a c) :=
  slice_apply ch 1792 slices_S32x3584_o0_1792_S32x128 a l c hc
theorem pay19_at (a : Fin 32) (l : Fin 128) (c : Fin 3584) (hc : c.val = 1920 + l.val) : k0_pay19 ch (ix2 a l) = ch (ix2 a c) :=
  slice_apply ch 1920 slices_S32x3584_o0_1920_S32x128 a l c hc
theorem pay20_at (a : Fin 32) (l : Fin 128) (c : Fin 3584) (hc : c.val = 2048 + l.val) : k0_pay20 ch (ix2 a l) = ch (ix2 a c) :=
  slice_apply ch 2048 slices_S32x3584_o0_2048_S32x128 a l c hc
theorem pay21_at (a : Fin 32) (l : Fin 128) (c : Fin 3584) (hc : c.val = 2176 + l.val) : k0_pay21 ch (ix2 a l) = ch (ix2 a c) :=
  slice_apply ch 2176 slices_S32x3584_o0_2176_S32x128 a l c hc
theorem pay22_at (a : Fin 32) (l : Fin 128) (c : Fin 3584) (hc : c.val = 2304 + l.val) : k0_pay22 ch (ix2 a l) = ch (ix2 a c) :=
  slice_apply ch 2304 slices_S32x3584_o0_2304_S32x128 a l c hc
theorem pay23_at (a : Fin 32) (l : Fin 128) (c : Fin 3584) (hc : c.val = 2432 + l.val) : k0_pay23 ch (ix2 a l) = ch (ix2 a c) :=
  slice_apply ch 2432 slices_S32x3584_o0_2432_S32x128 a l c hc
theorem pay24_at (a : Fin 32) (l : Fin 128) (c : Fin 3584) (hc : c.val = 2560 + l.val) : k0_pay24 ch (ix2 a l) = ch (ix2 a c) :=
  slice_apply ch 2560 slices_S32x3584_o0_2560_S32x128 a l c hc
theorem pay25_at (a : Fin 32) (l : Fin 128) (c : Fin 3584) (hc : c.val = 2688 + l.val) : k0_pay25 ch (ix2 a l) = ch (ix2 a c) :=
  slice_apply ch 2688 slices_S32x3584_o0_2688_S32x128 a l c hc
theorem pay26_at (a : Fin 32) (l : Fin 128) (c : Fin 3584) (hc : c.val = 2816 + l.val) : k0_pay26 ch (ix2 a l) = ch (ix2 a c) :=
  slice_apply ch 2816 slices_S32x3584_o0_2816_S32x128 a l c hc
theorem pay27_at (a : Fin 32) (l : Fin 128) (c : Fin 3584) (hc : c.val = 2944 + l.val) : k0_pay27 ch (ix2 a l) = ch (ix2 a c) :=
  slice_apply ch 2944 slices_S32x3584_o0_2944_S32x128 a l c hc
theorem pay28_at (a : Fin 32) (l : Fin 128) (c : Fin 3584) (hc : c.val = 3072 + l.val) : k0_pay28 ch (ix2 a l) = ch (ix2 a c) :=
  slice_apply ch 3072 slices_S32x3584_o0_3072_S32x128 a l c hc
theorem pay29_at (a : Fin 32) (l : Fin 128) (c : Fin 3584) (hc : c.val = 3200 + l.val) : k0_pay29 ch (ix2 a l) = ch (ix2 a c) :=
  slice_apply ch 3200 slices_S32x3584_o0_3200_S32x128 a l c hc
theorem pay30_at (a : Fin 32) (l : Fin 128) (c : Fin 3584) (hc : c.val = 3328 + l.val) : k0_pay30 ch (ix2 a l) = ch (ix2 a c) :=
  slice_apply ch 3328 slices_S32x3584_o0_3328_S32x128 a l c hc
theorem pay31_at (a : Fin 32) (l : Fin 128) (c : Fin 3584) (hc : c.val = 3456 + l.val) : k0_pay31 ch (ix2 a l) = ch (ix2 a c) :=
  slice_apply ch 3456 slices_S32x3584_o0_3456_S32x128 a l c hc

theorem sup_last (n : ℕ) (f : Fin (n + 1) → EReal) :
    Finset.univ.sup f = max (Finset.univ.sup fun i : Fin n => f i.castSucc) (f (Fin.last n)) := by
  apply le_antisymm
  · refine Finset.sup_le fun q _ => ?_
    induction q using Fin.lastCases with
    | last => exact le_max_right _ _
    | cast i => exact le_trans (Finset.le_sup (f := fun i : Fin n => f i.castSucc) (Finset.mem_univ i)) (le_max_left _ _)
  · exact max_le (Finset.sup_le fun i _ => Finset.le_sup (f := f) (Finset.mem_univ _)) (Finset.le_sup (f := f) (Finset.mem_univ _))

/-- The greatest of 28, taken one after another. -/
theorem sup28 (f : Fin 28 → EReal) :
    max (max (max (max (max (max (max (max (max (max (max (max (max (max (max (max (max (max (max (max (max (max (max (max (max (max (max (f 0) (f 1)) (f 2)) (f 3)) (f 4)) (f 5)) (f 6)) (f 7)) (f 8)) (f 9)) (f 10)) (f 11)) (f 12)) (f 13)) (f 14)) (f 15)) (f 16)) (f 17)) (f 18)) (f 19)) (f 20)) (f 21)) (f 22)) (f 23)) (f 24)) (f 25)) (f 26)) (f 27)
      = Finset.univ.sup f := by
  simp only [sup_last, Finset.univ_eq_empty, Finset.sup_empty, bot_le, max_eq_right]
  rfl

theorem cast_col (v : FVec Ideal S32 .f32) (a : Fin 32) : shapeCast S32x1 v shapeCasts_S32_S32x1 (ix2 a 0) = v (ix1 a) := by
  pointwise

theorem argVec_apply (a : Fin 32) : argVec ch (ix2 a 0) = rowArg fun c => ch (ix2 a c) := by
  unfold argVec k0_pay34 rowArg
  dsimp only
  rw [← sup_blocks]
  refine congrArg (· * Ideal.ofBits .f32 0x3B124925#32) ?_
  refine (cast_col _ a).trans ?_
  refine (Ideal.multiReduction_maximumf_single (a := 1) _ _ _ _ _ _).trans ?_
  rw [fold_max_eq_sup]
  refine Finset.sup_congr rfl fun l _ => ?_
  rw [← sup28]
  have hl : reduces_S32x128_S32.lift (ix1 a) l = ix2 a l := by
    funext x; fin_cases x <;> rfl
  show extf .f32 _ _ (reduces_S32x128_S32.lift (ix1 a) l) = _
  rw [hl]
  exact congrArg₂ max (congrArg₂ max (congrArg₂ max (congrArg₂ max (congrArg₂ max (congrArg₂ max (congrArg₂ max (congrArg₂ max (congrArg₂ max (congrArg₂ max (congrArg₂ max (congrArg₂ max (congrArg₂ max (congrArg₂ max (congrArg₂ max (congrArg₂ max (congrArg₂ max (congrArg₂ max (congrArg₂ max (congrArg₂ max (congrArg₂ max (congrArg₂ max (congrArg₂ max (congrArg₂ max (congrArg₂ max (congrArg₂ max (congrArg₂ max (congrArg eabs (pay4_at ch a l _ rfl))
    (congrArg eabs (pay5_at ch a l _ rfl)))
    (congrArg eabs (pay6_at ch a l _ rfl)))
    (congrArg eabs (pay7_at ch a l _ rfl)))
    (congrArg eabs (pay8_at ch a l _ rfl)))
    (congrArg eabs (pay9_at ch a l _ rfl)))
    (congrArg eabs (pay10_at ch a l _ rfl)))
    (congrArg eabs (pay11_at ch a l _ rfl)))
    (congrArg eabs (pay12_at ch a l _ rfl)))
    (congrArg eabs (pay13_at ch a l _ rfl)))
    (congrArg eabs (pay14_at ch a l _ rfl)))
    (congrArg eabs (pay15_at ch a l _ rfl)))
    (congrArg eabs (pay16_at ch a l _ rfl)))
    (congrArg eabs (pay17_at ch a l _ rfl)))
    (congrArg eabs (pay18_at ch a l _ rfl)))
    (congrArg eabs (pay19_at ch a l _ rfl)))
    (congrArg eabs (pay20_at ch a l _ rfl)))
    (congrArg eabs (pay21_at ch a l _ rfl)))
    (congrArg eabs (pay22_at ch a l _ rfl)))
    (congrArg eabs (pay23_at ch a l _ rfl)))
    (congrArg eabs (pay24_at ch a l _ rfl)))
    (congrArg eabs (pay25_at ch a l _ rfl)))
    (congrArg eabs (pay26_at ch a l _ rfl)))
    (congrArg eabs (pay27_at ch a l _ rfl)))
    (congrArg eabs (pay28_at ch a l _ rfl)))
    (congrArg eabs (pay29_at ch a l _ rfl)))
    (congrArg eabs (pay30_at ch a l _ rfl)))
    (congrArg eabs (pay31_at ch a l _ rfl))

/-- The exponent fields of the rows. -/
abbrev fieldVec : IVec S32x1 32 :=
  k0_pay37 (argVec ch) (k0_pay35 (k0_pay17 ch) (k0_pay18 ch) (k0_pay19 ch) (k0_pay20 ch) (k0_pay21 ch) (k0_pay22 ch) (k0_pay23 ch) (k0_pay24 ch)
    (k0_pay25 ch) (k0_pay26 ch) (k0_pay27 ch) (k0_pay28 ch) (k0_pay29 ch) (k0_pay30 ch) (k0_pay31 ch) (k0_pay32 ch) (k0_pay33 ch)) k0_pay36

/-- Whether a row's field is that of zero or of infinity. -/
abbrev edgeVec : IVec S32x1 1 :=
  k0_pay38 (argVec ch) (k0_pay35 (k0_pay17 ch) (k0_pay18 ch) (k0_pay19 ch) (k0_pay20 ch) (k0_pay21 ch) (k0_pay22 ch) (k0_pay23 ch) (k0_pay24 ch)
    (k0_pay25 ch) (k0_pay26 ch) (k0_pay27 ch) (k0_pay28 ch) (k0_pay29 ch) (k0_pay30 ch) (k0_pay31 ch) (k0_pay32 ch) (k0_pay33 ch)) k0_pay36

theorem field_at (j : S32x1.Idx) : fieldVec ch j = fieldF (argVec ch j) := rfl

theorem edge_at (j : S32x1.Idx) : edgeVec ch j = IntOp.ori (IntOp.cmpi .eq (fieldVec ch j) 0#32) (IntOp.cmpi .eq (fieldVec ch j) 255#32) := rfl

theorem exp_at (j : S32x1.Idx) : k0_pay39 (fieldVec ch) (edgeVec ch) 126#32 j = expF (argVec ch j) := rfl

theorem scale_vec (j : S32x1.Idx) : k0_pay40 (F := Ideal) (fieldVec ch) (edgeVec ch) 126#32 j = scaleF (argVec ch j) := rfl

theorem scale_at (a : Fin 32) : k0_pay40 (F := Ideal) (fieldVec ch) (edgeVec ch) 126#32 (ix2 a 0) = scaleE fun c => ch (ix2 a c) := by
  rw [scale_vec, argVec_apply]; rfl

theorem bcast_at (v : FVec Ideal S32x1 .f32) (a : Fin 32) (l : Fin 128) :
    broadcastTo S32x128 (shapeCast S32x1 v shapeCasts_S32x1_S32x1) broadcasts_S32x1_S32x128 (ix2 a l) = v (ix2 a 0) := by
  pointwise

theorem xs_at (a : Fin 32) (l : Fin 128) : k0_pay41 (F := Ideal) (fieldVec ch) (edgeVec ch) 126#32 (ix2 a l) = scaleE fun c => ch (ix2 a c) := by
  rw [← scale_at]
  unfold k0_pay41
  pointwise

theorem inv_at (a : Fin 32) (l : Fin 128) : k0_pay42 (F := Ideal) (fieldVec ch) (edgeVec ch) 126#32 (ix2 a l) = invE fun c => ch (ix2 a c) := by
  have h : invF (F := Ideal) (argVec ch (ix2 a 0)) = invE fun c => ch (ix2 a c) := by rw [argVec_apply]; rfl
  rw [← h]
  exact bcast_at (fun j => invF (F := Ideal) (argVec ch j)) a l

/-- The printed code operations on one block of columns, at an index. -/
theorem code_at (p s : FVec Ideal S32x128 .bf16) (j : S32x128.Idx) : k0_pay45 p s j = codeOf (p j) (s j) := rfl

/-- The codes of the loaded rows. -/
def codes (a : Fin 32) (c : Fin 3584) : EReal := codeOf (ch (ix2 a c)) (invE fun c => ch (ix2 a c))

theorem code_of (p : FVec Ideal S32x128 .bf16) (off : ℕ) (hp : ∀ (a : Fin 32) (l : Fin 128) (c : Fin 3584), c.val = off + l.val → p (ix2 a l) = ch (ix2 a c))
    (a : Fin 32) (l : Fin 128) (c : Fin 3584) (hc : c.val = off + l.val) :
    k0_pay45 p (k0_pay42 (F := Ideal) (fieldVec ch) (edgeVec ch) 126#32) (ix2 a l) = codes ch a c := by
  rw [code_at, hp a l c hc, inv_at]; rfl

/-- A block of loaded rows of a whole memref. -/
theorem chunk_at (arg1 : Memref sig .tc .vmem S1024x3584 .bf16) (harg1 : arg1.IsWhole) (x0 : Vec Ideal S1024x3584 .bf16) (k : Fin k0_t1_loop.trips)
    (inb) (a : Fin 32) (c : Fin 3584) (r : Fin 1024) (hr : r.val = 32 * k.val + a.val) :
    View.readAt (Elt Ideal) arg1.view (Rect.unit (s := S1024x3584) (k0_off1 k) S32x3584.size inb).toLoadRect (harg1.unread x0) (ix2 a c) = x0 (ix2 r c) := by
  rw [Memref.IsWhole.readAt_unread]
  refine congrArg x0 ?_
  have h0 := unit_val (S := S1024x3584) (k0_off1_eq k) S32x3584.size inb (ix2 a c)
  funext d
  apply Fin.ext
  refine (h0 d).trans ?_
  match d with
  | 0 => exact hr.symm
  | 1 => exact Nat.zero_add _

/-- The scales that one trip stores. -/
theorem scale_agree (arg1 : Memref sig .tc .vmem S1024x3584 .bf16) (harg1 : arg1.IsWhole) (x0 : Vec Ideal S1024x3584 .bf16) (k : Fin k0_t1_loop.trips)
    (inb) (inb') (x : S32x1.Idx) :
    let ch := View.readAt (Elt Ideal) arg1.view (Rect.unit (s := S1024x3584) (k0_off1 k) S32x3584.size inb).toLoadRect (harg1.unread x0)
    k0_pay40 (F := Ideal) (fieldVec ch) (edgeVec ch) 126#32 x
      = scaleE fun c => x0 (ix2 ((Rect.unit (s := S1024x1) (k0_off2 k) S32x1.size inb').emb x 0) c) := by
  intro ch
  obtain ⟨a, b, rfl⟩ : ∃ (a : Fin 32) (b : Fin 1), x = ix2 a b := ⟨x 0, x 1, by funext d; match d with | 0 => rfl | 1 => rfl⟩
  obtain rfl : b = 0 := Subsingleton.elim _ _
  rw [scale_at]
  refine congrArg scaleE (funext fun c => ?_)
  exact chunk_at arg1 harg1 x0 k inb a c _ (unit_val (S := S1024x1) (k0_off2_eq k) S32x1.size inb' (ix2 a 0) 0)

/-- The scales that one trip spreads over the lanes. -/
theorem xs_agree (arg1 : Memref sig .tc .vmem S1024x3584 .bf16) (harg1 : arg1.IsWhole) (x0 : Vec Ideal S1024x3584 .bf16) (k : Fin k0_t1_loop.trips)
    (inb) (inb') (x : S32x128.Idx) :
    let ch := View.readAt (Elt Ideal) arg1.view (Rect.unit (s := S1024x3584) (k0_off1 k) S32x3584.size inb).toLoadRect (harg1.unread x0)
    k0_pay41 (F := Ideal) (fieldVec ch) (edgeVec ch) 126#32 x
      = scaleE fun c => x0 (ix2 ((Rect.unit (s := S1024x128) (k0_off3 k) S32x128.size inb').emb x 0) c) := by
  intro ch
  obtain ⟨a, b, rfl⟩ : ∃ (a : Fin 32) (b : Fin 128), x = ix2 a b := ⟨x 0, x 1, by funext d; match d with | 0 => rfl | 1 => rfl⟩
  rw [xs_at]
  refine congrArg scaleE (funext fun c => ?_)
  exact chunk_at arg1 harg1 x0 k inb a c _ (unit_val (S := S1024x128) (k0_off3_eq k) S32x128.size inb' (ix2 a b) 0)

/-- The codes of the tokens. -/
def codesE (x0 : Vec Ideal S1024x3584 .bf16) (y : S1024x3584.Idx) : EReal := codeOf (x0 y) (invE fun c => x0 (ix2 (y 0) c))

/-- The codes that one trip stores in one block of columns. -/
theorem codes_agree (arg1 : Memref sig .tc .vmem S1024x3584 .bf16) (harg1 : arg1.IsWhole) (x0 : Vec Ideal S1024x3584 .bf16) (k : Fin k0_t1_loop.trips)
    (col : ℕ) (hcol : col + 128 ≤ 3584)
    (p : FVec Ideal S32x128 .bf16) {off : Fin 2 → ℕ} {inb}
    (hp : ∀ (a : Fin 32) (l : Fin 128) (c : Fin 3584), c.val = col + l.val → p (ix2 a l) =
      View.readAt (Elt Ideal) arg1.view (Rect.unit (s := S1024x3584) (k0_off1 k) S32x3584.size inb).toLoadRect (harg1.unread x0) (ix2 a c))
    (ho : off = ![32 * k.val, col]) (inb') :
    let ch := View.readAt (Elt Ideal) arg1.view (Rect.unit (s := S1024x3584) (k0_off1 k) S32x3584.size inb).toLoadRect (harg1.unread x0)
    ∀ x : (Rect.unit (s := S1024x3584) off S32x128.size inb').shape.Idx, k0_pay45 p (k0_pay42 (F := Ideal) (fieldVec ch) (edgeVec ch) 126#32) x
      = codesE x0 ((Rect.unit (s := S1024x3584) off S32x128.size inb').emb x) := by
  intro ch x
  obtain ⟨a, b, rfl⟩ : ∃ (a : Fin 32) (b : Fin 128), x = ix2 a b := ⟨x 0, x 1, by funext d; match d with | 0 => rfl | 1 => rfl⟩
  have h0 := unit_val (S := S1024x3584) ho S32x128.size inb' (ix2 a b) 0
  have h1 := unit_val (S := S1024x3584) ho S32x128.size inb' (ix2 a b) 1
  refine (code_of ch p col hp a b ⟨col + b.val, by omega⟩ rfl).trans ?_
  unfold codes codesE
  have e : (Rect.unit (s := S1024x3584) off S32x128.size inb').emb (ix2 a b) = ix2 ((Rect.unit (s := S1024x3584) off S32x128.size inb').emb (ix2 a b) 0) ⟨col + b.val, by omega⟩ := by
    funext d
    match d with
    | 0 => rfl
    | 1 => exact Fin.ext h1
  refine congrArg₂ codeOf ?_ (congrArg invE (funext fun c => chunk_at arg1 harg1 x0 k inb a c _ h0))
  exact (chunk_at arg1 harg1 x0 k inb a _ _ h0).trans (congrArg x0 e.symm)

/-- What one trip leaves in the scales: every piece has the scales of its rows. -/
theorem trip_scale (𝒱 : Variants) (c : Dev nD) (bd : Option 𝒱.V) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (k0_h1 : k0_cond1 i = 1#1) (x0 : Vec Ideal S1024x3584 .bf16) (k : Fin k0_t1_loop.trips) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 k0_h1 (harg1.unread x0) k).2.1, ∀ x : p.1.shape.Idx,
      p.2 x = scaleE fun c => x0 (ix2 ((p.1.emb x) 0) c) := by
  unfold trip_k0_t1
  dsimp only
  intro p hp
  rw [List.mem_singleton] at hp
  subst hp
  intro x
  exact scale_agree arg1 harg1 x0 k (k0_off1_inb i k k0_h1) (k0_off2_inb i k k0_h1) x

/-- What one trip leaves in the scales spread over the lanes. -/
theorem trip_xs (𝒱 : Variants) (c : Dev nD) (bd : Option 𝒱.V) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (k0_h1 : k0_cond1 i = 1#1) (x0 : Vec Ideal S1024x3584 .bf16) (k : Fin k0_t1_loop.trips) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 k0_h1 (harg1.unread x0) k).2.2.1, ∀ x : p.1.shape.Idx,
      p.2 x = scaleE fun c => x0 (ix2 ((p.1.emb x) 0) c) := by
  unfold trip_k0_t1
  dsimp only
  intro p hp
  rw [List.mem_singleton] at hp
  subst hp
  intro x
  exact xs_agree arg1 harg1 x0 k (k0_off1_inb i k k0_h1) (k0_off3_inb i k k0_h1) x

/-- What one trip leaves in the codes: every piece has the codes of its place. -/
theorem trip_codes (𝒱 : Variants) (c : Dev nD) (bd : Option 𝒱.V) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (k0_h1 : k0_cond1 i = 1#1) (x0 : Vec Ideal S1024x3584 .bf16) (k : Fin k0_t1_loop.trips) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 k0_h1 (harg1.unread x0) k).1, ∀ x : p.1.shape.Idx,
      p.2 x = codesE x0 (p.1.emb x) := by
  unfold trip_k0_t1
  dsimp only
  simp only [List.forall_mem_cons]
  exact ⟨
    codes_agree arg1 harg1 x0 k 3456 (by decide) _ (inb := k0_off1_inb i k k0_h1) (pay31_at _) (k0_off31_eq k) (k0_off31_inb i k k0_h1),
    codes_agree arg1 harg1 x0 k 3328 (by decide) _ (inb := k0_off1_inb i k k0_h1) (pay30_at _) (k0_off30_eq k) (k0_off30_inb i k k0_h1),
    codes_agree arg1 harg1 x0 k 3200 (by decide) _ (inb := k0_off1_inb i k k0_h1) (pay29_at _) (k0_off29_eq k) (k0_off29_inb i k k0_h1),
    codes_agree arg1 harg1 x0 k 3072 (by decide) _ (inb := k0_off1_inb i k k0_h1) (pay28_at _) (k0_off28_eq k) (k0_off28_inb i k k0_h1),
    codes_agree arg1 harg1 x0 k 2944 (by decide) _ (inb := k0_off1_inb i k k0_h1) (pay27_at _) (k0_off27_eq k) (k0_off27_inb i k k0_h1),
    codes_agree arg1 harg1 x0 k 2816 (by decide) _ (inb := k0_off1_inb i k k0_h1) (pay26_at _) (k0_off26_eq k) (k0_off26_inb i k k0_h1),
    codes_agree arg1 harg1 x0 k 2688 (by decide) _ (inb := k0_off1_inb i k k0_h1) (pay25_at _) (k0_off25_eq k) (k0_off25_inb i k k0_h1),
    codes_agree arg1 harg1 x0 k 2560 (by decide) _ (inb := k0_off1_inb i k k0_h1) (pay24_at _) (k0_off24_eq k) (k0_off24_inb i k k0_h1),
    codes_agree arg1 harg1 x0 k 2432 (by decide) _ (inb := k0_off1_inb i k k0_h1) (pay23_at _) (k0_off23_eq k) (k0_off23_inb i k k0_h1),
    codes_agree arg1 harg1 x0 k 2304 (by decide) _ (inb := k0_off1_inb i k k0_h1) (pay22_at _) (k0_off22_eq k) (k0_off22_inb i k k0_h1),
    codes_agree arg1 harg1 x0 k 2176 (by decide) _ (inb := k0_off1_inb i k k0_h1) (pay21_at _) (k0_off21_eq k) (k0_off21_inb i k k0_h1),
    codes_agree arg1 harg1 x0 k 2048 (by decide) _ (inb := k0_off1_inb i k k0_h1) (pay20_at _) (k0_off20_eq k) (k0_off20_inb i k k0_h1),
    codes_agree arg1 harg1 x0 k 1920 (by decide) _ (inb := k0_off1_inb i k k0_h1) (pay19_at _) (k0_off19_eq k) (k0_off19_inb i k k0_h1),
    codes_agree arg1 harg1 x0 k 1792 (by decide) _ (inb := k0_off1_inb i k k0_h1) (pay18_at _) (k0_off18_eq k) (k0_off18_inb i k k0_h1),
    codes_agree arg1 harg1 x0 k 1664 (by decide) _ (inb := k0_off1_inb i k k0_h1) (pay17_at _) (k0_off17_eq k) (k0_off17_inb i k k0_h1),
    codes_agree arg1 harg1 x0 k 1536 (by decide) _ (inb := k0_off1_inb i k k0_h1) (pay16_at _) (k0_off16_eq k) (k0_off16_inb i k k0_h1),
    codes_agree arg1 harg1 x0 k 1408 (by decide) _ (inb := k0_off1_inb i k k0_h1) (pay15_at _) (k0_off15_eq k) (k0_off15_inb i k k0_h1),
    codes_agree arg1 harg1 x0 k 1280 (by decide) _ (inb := k0_off1_inb i k k0_h1) (pay14_at _) (k0_off14_eq k) (k0_off14_inb i k k0_h1),
    codes_agree arg1 harg1 x0 k 1152 (by decide) _ (inb := k0_off1_inb i k k0_h1) (pay13_at _) (k0_off13_eq k) (k0_off13_inb i k k0_h1),
    codes_agree arg1 harg1 x0 k 1024 (by decide) _ (inb := k0_off1_inb i k k0_h1) (pay12_at _) (k0_off12_eq k) (k0_off12_inb i k k0_h1),
    codes_agree arg1 harg1 x0 k 896 (by decide) _ (inb := k0_off1_inb i k k0_h1) (pay11_at _) (k0_off11_eq k) (k0_off11_inb i k k0_h1),
    codes_agree arg1 harg1 x0 k 768 (by decide) _ (inb := k0_off1_inb i k k0_h1) (pay10_at _) (k0_off10_eq k) (k0_off10_inb i k k0_h1),
    codes_agree arg1 harg1 x0 k 640 (by decide) _ (inb := k0_off1_inb i k k0_h1) (pay9_at _) (k0_off9_eq k) (k0_off9_inb i k k0_h1),
    codes_agree arg1 harg1 x0 k 512 (by decide) _ (inb := k0_off1_inb i k k0_h1) (pay8_at _) (k0_off8_eq k) (k0_off8_inb i k k0_h1),
    codes_agree arg1 harg1 x0 k 384 (by decide) _ (inb := k0_off1_inb i k k0_h1) (pay7_at _) (k0_off7_eq k) (k0_off7_inb i k k0_h1),
    codes_agree arg1 harg1 x0 k 256 (by decide) _ (inb := k0_off1_inb i k k0_h1) (pay6_at _) (k0_off6_eq k) (k0_off6_inb i k k0_h1),
    codes_agree arg1 harg1 x0 k 128 (by decide) _ (inb := k0_off1_inb i k k0_h1) (pay5_at _) (k0_off5_eq k) (k0_off5_inb i k k0_h1),
    codes_agree arg1 harg1 x0 k 0 (by decide) _ (inb := k0_off1_inb i k k0_h1) (pay4_at _) (k0_off4_eq k) (k0_off4_inb i k k0_h1),
    fun p hp => absurd hp List.not_mem_nil⟩

/-- What the trips before `k` leave: the codes, the scales, and the scales over the lanes, each piece at its place. -/
theorem trips_agree (𝒱 : Variants) (c : Dev nD) (bd : Option 𝒱.V) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (k0_h1 : k0_cond1 i = 1#1) (x0 : Vec Ideal S1024x3584 .bf16) : ∀ k : ℕ, k ≤ k0_t1_loop.trips →
    (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 k0_h1 (harg1.unread x0) k).1, ∀ x : p.1.shape.Idx, p.2 x = codesE x0 (p.1.emb x)) ∧
    (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 k0_h1 (harg1.unread x0) k).2.1, ∀ x : p.1.shape.Idx,
      p.2 x = scaleE fun c => x0 (ix2 ((p.1.emb x) 0) c)) ∧
    (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 k0_h1 (harg1.unread x0) k).2.2, ∀ x : p.1.shape.Idx,
      p.2 x = scaleE fun c => x0 (ix2 ((p.1.emb x) 0) c))
  | 0, _ => ⟨fun _ hp => absurd hp List.not_mem_nil, fun _ hp => absurd hp List.not_mem_nil, fun _ hp => absurd hp List.not_mem_nil⟩
  | k + 1, hk => by
    obtain ⟨h1, h2, h3⟩ := trips_agree 𝒱 c bd i arg1 harg1 arg2 harg2 arg3 harg3 arg4 harg4 arg5 harg5 arg6 harg6 arg7 harg7 arg8 harg8 arg9 harg9 arg10 harg10 arg11 harg11 k0_h1 x0 k (by omega)
    have e := pb_k0_t1_succ (F := Ideal) 𝒱 c bd i arg1 harg1 arg2 harg2 arg3 harg3 arg4 harg4 arg5 harg5 arg6 harg6 arg7 harg7 arg8 harg8 arg9 harg9 arg10 harg10 arg11 harg11 k0_h1 (harg1.unread x0) ⟨k, hk⟩
    dsimp only at e
    rw [e]
    exact ⟨fun p hp => (List.mem_append.mp hp).elim (trip_codes 𝒱 c bd i arg1 harg1 arg2 harg2 arg3 harg3 arg4 harg4 arg5 harg5 arg6 harg6 arg7 harg7 arg8 harg8 arg9 harg9 arg10 harg10 arg11 harg11 k0_h1 x0 ⟨k, hk⟩ p) (h1 p),
      fun p hp => (List.mem_append.mp hp).elim (trip_scale 𝒱 c bd i arg1 harg1 arg2 harg2 arg3 harg3 arg4 harg4 arg5 harg5 arg6 harg6 arg7 harg7 arg8 harg8 arg9 harg9 arg10 harg10 arg11 harg11 k0_h1 x0 ⟨k, hk⟩ p) (h2 p),
      fun p hp => (List.mem_append.mp hp).elim (trip_xs 𝒱 c bd i arg1 harg1 arg2 harg2 arg3 harg3 arg4 harg4 arg5 harg5 arg6 harg6 arg7 harg7 arg8 harg8 arg9 harg9 arg10 harg10 arg11 harg11 k0_h1 x0 ⟨k, hk⟩ p) (h3 p)⟩

end Cert.KernelIdeal.Hand
end
-- ==== Proof.KY.lean ====
/- The products of the kernel at one grid point, entry by entry. -/
module
public import proofs.«01_k».proof.Proof.Gen.KernelIdeal.Loops
public import Idealize.ShloMosaic.Lib.Pipeline.ValueKit
public import Idealize.ShloMosaic.Lib.Pipeline.Value
public import Idealize.ShloMosaic.Lib.MatmulPlain
public import Idealize.ShloMosaic.Lib.BitcastPair
public import Idealize.ShloMosaic.Lib.BitcastFour
public import proofs.«01_k».proof.Proof.KStep
public import proofs.«01_k».proof.Proof.KQuant
@[expose] public section
set_option maxRecDepth 16384
noncomputable section
namespace Cert.KernelIdeal.Hand
open Cert.KernelIdeal Cert.KernelIdeal.Gen Cert.Dense
open Idealize.ShloMosaic Idealize.ShloMosaic.TcCoe Idealize.ShloMosaic.Tactic

/-- Byte `k % 4` of word row `k / 4` is byte row `k`. -/
theorem byte_of_word (x : S896x128.Idx → BitVec 32) (h : S896x128.Bitcasts 32 S3584x128 8) (k : Fin 3584) (l : Fin 128) :
    bitcast S3584x128 8 x h (ix2 k l) = byteAt (x (ix2 ⟨k.val / 4, by omega⟩ l)) (k.val % 4) := by
  apply BitVec.eq_of_getLsbD_eq
  intro q hq
  rw [bitcast_getLsbD x h _ q hq (by decide)]
  unfold byteAt
  rw [BitVec.getLsbD_extractLsb']
  have hr : S3584x128.row (ix2 k l) = k.val := rfl
  have ep : (S3584x128.row (ix2 k l) * 8 + q) / 32 = k.val / 4 := by rw [hr]; omega
  have eq : (S3584x128.row (ix2 k l) * 8 + q) % 32 = 8 * (k.val % 4) + q := by rw [hr]; omega
  rw [eq]
  simp only [hq, decide_true, Bool.true_and]
  congr 2
  funext c
  match c with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (by show ¬ 1 + 2 = 2; omega))

/-- Byte `b` of word row `q` is byte row `4 q + b`. -/
theorem word_byte (x : S1792x128.Idx → BitVec 8) (h : S1792x128.Bitcasts 8 S448x128 32) (q : Fin 448) (l : Fin 128) (b : ℕ) (hb : b < 4)
    (p : Fin 1792) (hp : p.val = 4 * q.val + b) : byteAt (bitcast S448x128 32 x h (ix2 q l)) b = x (ix2 p l) := by
  apply BitVec.eq_of_getLsbD_eq
  intro i hi
  unfold byteAt
  rw [BitVec.getLsbD_extractLsb']
  simp only [hi, decide_true, Bool.true_and]
  refine (bitcast_8_32_getLsbD_ix2 x h q l (8 * b + i) (by omega) p (by omega)).trans ?_
  rw [show (8 * b + i) % 8 = i by omega]
  rfl

/-- The byte of dense row `k` and lane `l` of one half. -/
def denseByte (v : Vec Ideal S1792x128 .i8) (w : Vec Ideal S112x128 .i32) (k : Fin 3584) (l : Fin 128) : BitVec 8 :=
  if posAt (w (ix2 ⟨k.val / 32, by omega⟩ l)) (4 * (k.val / 4 % 8)) = k.val % 4 then v (ix2 ⟨2 * (k.val / 4), by omega⟩ l)
  else if posAt (w (ix2 ⟨k.val / 32, by omega⟩ l)) (4 * (k.val / 4 % 8) + 2) = k.val % 4 then v (ix2 ⟨2 * (k.val / 4) + 1, by omega⟩ l)
  else 0#8

/-- The two positions of every group differ. -/
def Distinct (w : Vec Ideal S112x128 .i32) : Prop :=
  ∀ (r : Fin 112) (l : Fin 128) (j : ℕ), j < 8 → posAt (w (ix2 r l)) (4 * j) ≠ posAt (w (ix2 r l)) (4 * j + 2)

theorem byteAt_wordAt (v : Vec Ideal S1792x128 .i8) (w : Vec Ideal S112x128 .i32) (hd : Distinct w) (k : Fin 3584) (l : Fin 128) :
    byteAt (wordAt (F := Ideal) v w ⟨k.val / 4, by omega⟩ l) (k.val % 4) = denseByte v w k l := by
  have hk := k.isLt
  unfold wordAt denseByte
  dsimp only
  have e1 : 8 * (k.val / 4 % 8 / 2) + 4 * (k.val / 4 % 2) = 4 * (k.val / 4 % 8) := by omega
  have e3 : (⟨k.val / 4 / 8, by omega⟩ : Fin 112) = ⟨k.val / 32, by omega⟩ := Fin.ext (by show k.val / 4 / 8 = k.val / 32; omega)
  rw [e3]
  have hne := hd ⟨k.val / 32, by omega⟩ l (k.val / 4 % 8) (by omega)
  rw [denseWord_byte _ _ _ _ _ (by omega) (by omega) (by omega) (by rw [e1]; exact hne), e1]
  rw [word_byte v _ _ l (2 * (k.val / 4 % 2)) (by omega) ⟨2 * (k.val / 4), by omega⟩
      (by show 2 * (k.val / 4) = 4 * (4 * (k.val / 4 / 8) + k.val / 4 % 8 / 2) + 2 * (k.val / 4 % 2); omega),
    word_byte v _ _ l (2 * (k.val / 4 % 2) + 1) (by omega) ⟨2 * (k.val / 4) + 1, by omega⟩
      (by show 2 * (k.val / 4) + 1 = 4 * (4 * (k.val / 4 / 8) + k.val / 4 % 8 / 2) + (2 * (k.val / 4 % 2) + 1); omega)]

theorem dense_half (v : Vec Ideal S1x896x128 .i32) (k : Fin 3584) (l : Fin 128) :
    bitcastToFloat (F := Ideal) .fp8e4m3 (bitcast S3584x128 8 (shapeCast S896x128 v shapeCasts_S1x896x128_S896x128) bitcasts_S896x128_w32_S3584x128_w8) (ix2 k l)
      = Ideal.ofBits .fp8e4m3 (byteAt (v (ix3 0 ⟨k.val / 4, by omega⟩ l)) (k.val % 4)) := by
  refine congrArg (Ideal.ofBits .fp8e4m3) ?_
  rw [byte_of_word]
  refine congrArg (byteAt · (k.val % 4)) ?_
  pointwise

theorem pay744_at (v₀ v₁ : Vec Ideal S1x896x128 .i32) (C : Vec Ideal S1024x3584 .fp8e4m3) (r : Fin 1024) (col : Fin 256) :
    k0_pay744 (F := Ideal) v₀ v₁ C (ix2 r col)
      = ∑ k : Fin 3584, C (ix2 r k) * Ideal.ofBits .fp8e4m3 (byteAt ((if col.val < 128 then v₀ else v₁)
          (ix3 0 ⟨k.val / 4, by omega⟩ ⟨col.val % 128, Nat.mod_lt _ (by decide)⟩)) (k.val % 4)) := by
  unfold k0_pay744
  refine (Ideal.matmul_plain_apply (M := 1024) (K := 3584) (N := 256) none _ _ _ r col).trans ?_
  refine (congrArg (· + _) (show (constant (F := Ideal) S1024x256 .f32 0x00000000#32) (ix2 r col) = (0 : EReal) from Ideal.ofBits_zero_f32)).trans ?_
  rw [zero_add, shapeCast_self]
  refine Finset.sum_congr rfl fun k _ => congrArg (C (ix2 r k) * ·) ?_
  by_cases hc : col.val < 128
  · rw [if_pos hc]
    refine (concatenate_pair_apply_left (t := S3584x256) 1 _ _ concatenates_S3584x128_S3584x128_S3584x256_d1 (ix2 k col) rfl (ix2 k ⟨col.val % 128, Nat.mod_lt _ (by decide)⟩) fun b => ?_).trans (dense_half v₀ k _)
    match b with
    | 0 => rfl
    | 1 => exact Nat.mod_eq_of_lt hc
  · rw [if_neg hc]
    refine (concatenate_pair_apply_right (t := S3584x256) 1 _ _ concatenates_S3584x128_S3584x128_S3584x256_d1 (ix2 k col) rfl rfl (ix2 k ⟨col.val % 128, Nat.mod_lt _ (by decide)⟩) (fun b hb => ?_) ?_).trans (dense_half v₁ k _)
    · match b with
      | 0 => rfl
      | 1 => exact absurd rfl hb
    · show col.val % 128 + 128 = col.val
      omega

/-- The dense weight of row `k` and column `col` of a block of columns. -/
def denseE (x1 x2 : Vec Ideal S1792x128 .i8) (x3 x4 : Vec Ideal S112x128 .i32) (k : Fin 3584) (col : Fin 256) : EReal :=
  Ideal.ofBits .fp8e4m3 (denseByte (if col.val < 128 then x1 else x2) (if col.val < 128 then x3 else x4) k ⟨col.val % 128, Nat.mod_lt _ (by decide)⟩)

/-- A block of the result: the product of the codes with the dense weights, times the row's scale, times the column's scale. -/
def yE (C : Vec Ideal S1024x3584 .fp8e4m3) (X : Vec Ideal S1024x128 .f32) (x1 x2 : Vec Ideal S1792x128 .i8) (x3 x4 : Vec Ideal S112x128 .i32)
    (x5 : Vec Ideal S1x1x256 .f32) (r : Fin 1024) (col : Fin 256) : EReal :=
  (∑ k : Fin 3584, C (ix2 r k) * denseE x1 x2 x3 x4 k col) * X (ix2 r ⟨col.val % 128, Nat.mod_lt _ (by decide)⟩) * x5 (ix3 0 0 col)

theorem pay1_at (v₀ v₁ : Vec Ideal S1x896x128 .i32) (C : Vec Ideal S1024x3584 .fp8e4m3) (X : Vec Ideal S1024x128 .f32) (ws : Vec Ideal S1x1x128 .f32)
    (r : Fin 1024) (l : Fin 128) :
    k0_pay1 (F := Ideal) (k0_pay745 v₀ v₁ C X) (k0_pay746 ws) (ix2 r l)
      = k0_pay744 (F := Ideal) v₀ v₁ C (ix2 r ⟨l.val, by omega⟩) * X (ix2 r l) * ws (ix3 0 0 l) := by
  unfold k0_pay1 k0_pay745 k0_pay746
  generalize k0_pay744 (F := Ideal) v₀ v₁ C = M
  pointwise

theorem pay2_at (M : FVec Ideal S1024x256 .f32) (X : Vec Ideal S1024x128 .f32) (ws : Vec Ideal S1x1x128 .f32)
    (r : Fin 1024) (l : Fin 128) :
    k0_pay2 (F := Ideal) M X ws (ix2 r l)
      = M (ix2 r ⟨128 + l.val, by omega⟩) * X (ix2 r l) * ws (ix3 0 0 l) := by
  unfold k0_pay2
  pointwise

end Cert.KernelIdeal.Hand
end
-- ==== Proof.KOut.lean ====
/- What the body leaves in its windows at each grid point, in terms of the blocks. -/
module
public import proofs.«01_k».proof.Proof.KValue
public import proofs.«01_k».proof.Proof.KY
@[expose] public section
set_option maxRecDepth 16384
noncomputable section
namespace Cert.KernelIdeal.Hand
open Cert.KernelIdeal Cert.KernelIdeal.Gen Cert.Dense
open Idealize.ShloMosaic Idealize.ShloMosaic.TcCoe Idealize.ShloMosaic.Tactic

/-- The two stores of a block of the result, the last first. -/
def yPieces (L : List (View.Piece (Elt Ideal) S2x896x128 .i32)) (vw : View sig .tc .vmem S2x896x128 .i32) (C : Vec Ideal S1024x3584 .fp8e4m3)
    (X : Vec Ideal S1024x128 .f32) (ws₀ ws₁ : Vec Ideal S1x1x128 .f32) : List (View.Piece (Elt Ideal) S1024x256 .bf16) :=
  [⟨Rect.unit (s := S1024x256) ![0, 128] ![1024, 128] inb_S1024x256_S1024x128_0_128,
      k0_pay2 (F := Ideal) (k0_pay744 (F := Ideal)
        (vw.readCov (Val := Elt Ideal) L (Rect.unit (s := S2x896x128) ![0, 0, 0] S1x896x128.size inb_S2x896x128_S1x896x128_0_0_0).toLoadRect)
        (vw.readCov (Val := Elt Ideal) L (Rect.unit (s := S2x896x128) ![1, 0, 0] S1x896x128.size inb_S2x896x128_S1x896x128_1_0_0).toLoadRect) C) X ws₁⟩,
    ⟨Rect.unit (s := S1024x256) ![0, 0] ![1024, 128] inb_S1024x256_S1024x128_0_0,
      k0_pay1 (F := Ideal) (k0_pay745 (F := Ideal)
        (vw.readCov (Val := Elt Ideal) L (Rect.unit (s := S2x896x128) ![0, 0, 0] S1x896x128.size inb_S2x896x128_S1x896x128_0_0_0).toLoadRect)
        (vw.readCov (Val := Elt Ideal) L (Rect.unit (s := S2x896x128) ![1, 0, 0] S1x896x128.size inb_S2x896x128_S1x896x128_1_0_0).toLoadRect) C X)
        (k0_pay746 (F := Ideal) ws₀)⟩]

theorem run_y_A (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : cond0_0 i) (x0 : Vec Ideal S1024x3584 .bf16) (x1 : Vec Ideal S1792x128 .i8) (x2 : Vec Ideal S1792x128 .i8) (x3 : Vec Ideal S112x128 .i32) (x4 : Vec Ideal S112x128 .i32) (x5 : Vec Ideal S1x1x256 .f32) :
    (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5).1 = yPieces (denseList (valsOf arg2 harg2 x1) (valsOf arg3 harg3 x2) (wordsOf arg4 harg4 x3) (wordsOf arg5 harg5 x4)) arg10.view
      (arg8.view.readCov (Val := Elt Ideal) (pb_k0_t1 (F := Ideal) Variants.none c none i arg1 harg1 arg2 harg2 arg3 harg3 arg4 harg4 arg5 harg5 arg6 harg6 arg7 harg7 arg8 harg8 arg9 harg9 arg10 harg10 arg11 harg11 hc0 (harg1.unread x0) k0_t1_loop.trips).1 (Rect.unit (s := S1024x3584) ![0, 0] S1024x3584.size (by decide)).toLoadRect)
      (arg11.view.readCov (Val := Elt Ideal) (pb_k0_t1 (F := Ideal) Variants.none c none i arg1 harg1 arg2 harg2 arg3 harg3 arg4 harg4 arg5 harg5 arg6 harg6 arg7 harg7 arg8 harg8 arg9 harg9 arg10 harg10 arg11 harg11 hc0 (harg1.unread x0) k0_t1_loop.trips).2.2 (Rect.unit (s := S1024x128) ![0, 0] S1024x128.size (by decide)).toLoadRect)
      (View.readAt (Elt Ideal) arg6.view (Rect.unit (s := S1x1x256) ![0, 0, 0] S1x1x128.size (by decide)).toLoadRect (harg6.unread x5))
      (View.readAt (Elt Ideal) arg6.view (Rect.unit (s := S1x1x256) ![0, 0, 128] S1x1x128.size (by decide)).toLoadRect (harg6.unread x5)) := by
  sl_kernel_rfl

theorem run_y_B (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : ¬cond0_0 i) (x0 : Vec Ideal S1024x3584 .bf16) (x1 : Vec Ideal S1792x128 .i8) (x2 : Vec Ideal S1792x128 .i8) (x3 : Vec Ideal S112x128 .i32) (x4 : Vec Ideal S112x128 .i32) (x5 : Vec Ideal S1x1x256 .f32) (xo7 : Vec Ideal S1024x3584 .fp8e4m3) (xo8 : Vec Ideal S1024x1 .f32) (xs1 : Vec Ideal S1024x128 .f32) :
    (kernelRun0_B (F := Ideal) c i arg1 harg1 arg2 harg2 arg3 harg3 arg4 harg4 arg5 harg5 arg6 harg6 arg7 harg7 arg8 harg8 arg9 harg9 arg10 harg10 arg11 harg11 hc0 x0 x1 x2 x3 x4 x5 xo7 xo8 xs1).1 = yPieces (denseList (valsOf arg2 harg2 x1) (valsOf arg3 harg3 x2) (wordsOf arg4 harg4 x3) (wordsOf arg5 harg5 x4)) arg10.view
      (View.readAt (Elt Ideal) arg8.view (Rect.unit (s := S1024x3584) ![0, 0] S1024x3584.size (by decide)).toLoadRect (harg8.unread xo7))
      (View.readAt (Elt Ideal) arg11.view (Rect.unit (s := S1024x128) ![0, 0] S1024x128.size (by decide)).toLoadRect (harg11.unread xs1))
      (View.readAt (Elt Ideal) arg6.view (Rect.unit (s := S1x1x256) ![0, 0, 0] S1x1x128.size (by decide)).toLoadRect (harg6.unread x5))
      (View.readAt (Elt Ideal) arg6.view (Rect.unit (s := S1x1x256) ![0, 0, 128] S1x1x128.size (by decide)).toLoadRect (harg6.unread x5)) := by
  sl_kernel_rfl

theorem run_codes_A (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : cond0_0 i) (x0 : Vec Ideal S1024x3584 .bf16) (x1 : Vec Ideal S1792x128 .i8) (x2 : Vec Ideal S1792x128 .i8) (x3 : Vec Ideal S112x128 .i32) (x4 : Vec Ideal S112x128 .i32) (x5 : Vec Ideal S1x1x256 .f32) : (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5).2.1 = (pb_k0_t1 (F := Ideal) Variants.none c none i arg1 harg1 arg2 harg2 arg3 harg3 arg4 harg4 arg5 harg5 arg6 harg6 arg7 harg7 arg8 harg8 arg9 harg9 arg10 harg10 arg11 harg11 hc0 (harg1.unread x0) k0_t1_loop.trips).1 := by sl_kernel_rfl
theorem run_scale_A (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : cond0_0 i) (x0 : Vec Ideal S1024x3584 .bf16) (x1 : Vec Ideal S1792x128 .i8) (x2 : Vec Ideal S1792x128 .i8) (x3 : Vec Ideal S112x128 .i32) (x4 : Vec Ideal S112x128 .i32) (x5 : Vec Ideal S1x1x256 .f32) : (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5).2.2.1 = (pb_k0_t1 (F := Ideal) Variants.none c none i arg1 harg1 arg2 harg2 arg3 harg3 arg4 harg4 arg5 harg5 arg6 harg6 arg7 harg7 arg8 harg8 arg9 harg9 arg10 harg10 arg11 harg11 hc0 (harg1.unread x0) k0_t1_loop.trips).2.1 := by sl_kernel_rfl
theorem run_xs_A (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : cond0_0 i) (x0 : Vec Ideal S1024x3584 .bf16) (x1 : Vec Ideal S1792x128 .i8) (x2 : Vec Ideal S1792x128 .i8) (x3 : Vec Ideal S112x128 .i32) (x4 : Vec Ideal S112x128 .i32) (x5 : Vec Ideal S1x1x256 .f32) : (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5).2.2.2.1 = (pb_k0_t1 (F := Ideal) Variants.none c none i arg1 harg1 arg2 harg2 arg3 harg3 arg4 harg4 arg5 harg5 arg6 harg6 arg7 harg7 arg8 harg8 arg9 harg9 arg10 harg10 arg11 harg11 hc0 (harg1.unread x0) k0_t1_loop.trips).2.2 := by sl_kernel_rfl

theorem load_whole_box {S : Shape} {off : Fin S.rank → ℕ} (h : ∀ a, off a = 0) (inb : ∀ a, off a + S.size a ≤ S.size a) (x : S.Idx) :
    ((Rect.unit (s := S) off S.size inb).toLoadRect).idx x = x := by
  funext a
  apply Fin.ext
  show off a + 1 * (x a).val = (x a).val
  rw [h a]; omega

theorem zeros2 : ∀ a : Fin 2, (![0, 0] : Fin 2 → ℕ) a = 0 := by decide

/-- The two stores agree with the block of the result. -/
theorem yPieces_agree (arg4 : Memref sig .tc .vmem S112x128 .i32) (harg4 : arg4.IsWhole) (arg5 : Memref sig .tc .vmem S112x128 .i32) (harg5 : arg5.IsWhole)
    (x1 x2 : Vec Ideal S1792x128 .i8) (x3 x4 : Vec Ideal S112x128 .i32) (h3 : Distinct x3) (h4 : Distinct x4) (x5 : Vec Ideal S1x1x256 .f32)
    (vw : View sig .tc .vmem S2x896x128 .i32) (C : Vec Ideal S1024x3584 .fp8e4m3) (X : Vec Ideal S1024x128 .f32) (ws₀ ws₁ : Vec Ideal S1x1x128 .f32)
    (e₀ : ∀ l : Fin 128, ws₀ (ix3 0 0 l) = x5 (ix3 0 0 ⟨l.val, by omega⟩)) (e₁ : ∀ l : Fin 128, ws₁ (ix3 0 0 l) = x5 (ix3 0 0 ⟨128 + l.val, by omega⟩)) :
    ∀ p ∈ yPieces (denseList x1 x2 (wordsOf arg4 harg4 x3) (wordsOf arg5 harg5 x4)) vw C X ws₀ ws₁, ∀ x : p.1.shape.Idx,
      p.2 x = yE C X x1 x2 x3 x4 x5 (p.1.emb x 0) (p.1.emb x 1) := by
  have hM : ∀ (r : Fin 1024) (col : Fin 256), k0_pay744 (F := Ideal)
        (vw.readCov (Val := Elt Ideal) (denseList x1 x2 (wordsOf arg4 harg4 x3) (wordsOf arg5 harg5 x4)) (Rect.unit (s := S2x896x128) ![0, 0, 0] S1x896x128.size inb_S2x896x128_S1x896x128_0_0_0).toLoadRect)
        (vw.readCov (Val := Elt Ideal) (denseList x1 x2 (wordsOf arg4 harg4 x3) (wordsOf arg5 harg5 x4)) (Rect.unit (s := S2x896x128) ![1, 0, 0] S1x896x128.size inb_S2x896x128_S1x896x128_1_0_0).toLoadRect) C (ix2 r col)
      = ∑ k : Fin 3584, C (ix2 r k) * denseE x1 x2 x3 x4 k col := by
    intro r col
    rw [pay744_at]
    refine Finset.sum_congr rfl fun k _ => congrArg (C (ix2 r k) * ·) (congrArg (Ideal.ofBits .fp8e4m3) ?_)
    by_cases hc : col.val < 128
    · simp only [if_pos hc]
      rw [dense_read, ← byteAt_wordAt x1 x3 h3]
      refine congrArg (byteAt · (k.val % 4)) ?_
      unfold wordsAt
      refine (if_pos (show 0 + 1 * 0 = 0 from rfl)).trans ?_
      congr 1 <;> exact Fin.ext ((Nat.zero_add _).trans (Nat.one_mul _))
    · simp only [if_neg hc]
      rw [dense_read, ← byteAt_wordAt x2 x4 h4]
      refine congrArg (byteAt · (k.val % 4)) ?_
      unfold wordsAt
      refine (if_neg (show ¬1 + 1 * 0 = 0 by decide)).trans ?_
      congr 1 <;> exact Fin.ext ((Nat.zero_add _).trans (Nat.one_mul _))
  intro p hp
  rcases List.mem_cons.1 hp with rfl | hp
  · intro x
    obtain ⟨r, l, rfl⟩ : ∃ (r : Fin 1024) (l : Fin 128), x = ix2 r l := ⟨x 0, x 1, by funext d; match d with | 0 => rfl | 1 => rfl⟩
    refine (pay2_at _ _ _ r l).trans ?_
    rw [hM, e₁]
    have ea : ((Rect.unit (s := S1024x256) ![0, 128] ![1024, 128] inb_S1024x256_S1024x128_0_128).emb (ix2 r l) 0 : Fin 1024) = r := Fin.ext (by show 0 + 1 * r.val = r.val; omega)
    have eb : ((Rect.unit (s := S1024x256) ![0, 128] ![1024, 128] inb_S1024x256_S1024x128_0_128).emb (ix2 r l) 1 : Fin 256) = (⟨128 + l.val, by omega⟩ : Fin 256) := Fin.ext (by show 128 + 1 * l.val = 128 + l.val; omega)
    have el : l = ⟨(128 + l.val) % 128, Nat.mod_lt _ (by decide)⟩ := Fin.ext (by show l.val = (128 + l.val) % 128; omega)
    have key : (∑ k : Fin 3584, C (ix2 r k) * denseE x1 x2 x3 x4 k ⟨128 + l.val, by omega⟩) * X (ix2 r l) * x5 (ix3 0 0 ⟨128 + l.val, by omega⟩)
        = yE C X x1 x2 x3 x4 x5 r ⟨128 + l.val, by omega⟩ := by
      unfold yE
      rw [← el]
    rw [key]
    exact congr (congrArg (yE C X x1 x2 x3 x4 x5) ea.symm) eb.symm
  · obtain rfl := List.mem_singleton.1 hp
    intro x
    obtain ⟨r, l, rfl⟩ : ∃ (r : Fin 1024) (l : Fin 128), x = ix2 r l := ⟨x 0, x 1, by funext d; match d with | 0 => rfl | 1 => rfl⟩
    refine (pay1_at _ _ _ _ _ r l).trans ?_
    rw [hM, e₀]
    have ea : ((Rect.unit (s := S1024x256) ![0, 0] ![1024, 128] inb_S1024x256_S1024x128_0_0).emb (ix2 r l) 0 : Fin 1024) = r := Fin.ext (by show 0 + 1 * r.val = r.val; omega)
    have eb : ((Rect.unit (s := S1024x256) ![0, 0] ![1024, 128] inb_S1024x256_S1024x128_0_0).emb (ix2 r l) 1 : Fin 256) = (⟨l.val, by omega⟩ : Fin 256) := Fin.ext (by show 0 + 1 * l.val = l.val; omega)
    have el : l = ⟨l.val % 128, Nat.mod_lt _ (by decide)⟩ := Fin.ext (by show l.val = l.val % 128; omega)
    have key : (∑ k : Fin 3584, C (ix2 r k) * denseE x1 x2 x3 x4 k ⟨l.val, by omega⟩) * X (ix2 r l) * x5 (ix3 0 0 ⟨l.val, by omega⟩)
        = yE C X x1 x2 x3 x4 x5 r ⟨l.val, by omega⟩ := by
      unfold yE
      rw [← el]
    rw [key]
    exact congr (congrArg (yE C X x1 x2 x3 x4 x5) ea.symm) eb.symm

/-- The scale of each row, in every lane. -/
def lanesE (x0 : Vec Ideal S1024x3584 .bf16) (y : S1024x128.Idx) : EReal := scaleE fun c => x0 (ix2 (y 0) c)

theorem ws_low (arg6 : Memref sig .tc .vmem S1x1x256 .f32) (harg6 : arg6.IsWhole) (x5 : Vec Ideal S1x1x256 .f32) (inb) (l : Fin 128) :
    View.readAt (Elt Ideal) arg6.view (Rect.unit (s := S1x1x256) ![0, 0, 0] S1x1x128.size inb).toLoadRect (harg6.unread x5) (ix3 0 0 l)
      = x5 (ix3 0 0 ⟨l.val, by omega⟩) := by
  rw [Memref.IsWhole.readAt_unread]
  refine congrArg x5 (funext fun d => Fin.ext ?_)
  match d with
  | 0 => rfl
  | 1 => rfl
  | 2 => show 0 + 1 * l.val = l.val; omega

theorem ws_high (arg6 : Memref sig .tc .vmem S1x1x256 .f32) (harg6 : arg6.IsWhole) (x5 : Vec Ideal S1x1x256 .f32) (inb) (l : Fin 128) :
    View.readAt (Elt Ideal) arg6.view (Rect.unit (s := S1x1x256) ![0, 0, 128] S1x1x128.size inb).toLoadRect (harg6.unread x5) (ix3 0 0 l)
      = x5 (ix3 0 0 ⟨128 + l.val, by omega⟩) := by
  rw [Memref.IsWhole.readAt_unread]
  refine congrArg x5 (funext fun d => Fin.ext ?_)
  match d with
  | 0 => rfl
  | 1 => rfl
  | 2 => show 128 + 1 * l.val = 128 + l.val; omega

theorem out_codes_A (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : cond0_0 i) (x0 : Vec Ideal S1024x3584 .bf16) (x1 : Vec Ideal S1792x128 .i8) (x2 : Vec Ideal S1792x128 .i8) (x3 : Vec Ideal S112x128 .i32) (x4 : Vec Ideal S112x128 .i32) (x5 : Vec Ideal S1x1x256 .f32) : out0_A_7 (F := Ideal) c i arg1 harg1 arg2 harg2 arg3 harg3 arg4 harg4 arg5 harg5 arg6 harg6 arg7 harg7 arg8 harg8 arg9 harg9 arg10 harg10 arg11 harg11 hc0 x0 x1 x2 x3 x4 x5 = codesE x0 := by
  funext y
  unfold out0_A_7
  rw [View.read_writes_apply_eq_canon VO0_7 _ y _ (cover0_A_7 c i arg1 harg1 arg2 harg2 arg3 harg3 arg4 harg4 arg5 harg5 arg6 harg6 arg7 harg7 arg8 harg8 arg9 harg9 arg10 harg10 arg11 harg11 hc0 x0 x1 x2 x3 x4 x5 y)]
  refine View.canon_apply_of_pieces (Val := Elt Ideal) (S := S1024x3584) (e := .fp8e4m3) (codesE x0) _ ?_ y (cover0_A_7 c i arg1 harg1 arg2 harg2 arg3 harg3 arg4 harg4 arg5 harg5 arg6 harg6 arg7 harg7 arg8 harg8 arg9 harg9 arg10 harg10 arg11 harg11 hc0 x0 x1 x2 x3 x4 x5 y)
  rw [run_codes_A]
  exact (trips_agree Variants.none c none i arg1 harg1 arg2 harg2 arg3 harg3 arg4 harg4 arg5 harg5 arg6 harg6 arg7 harg7 arg8 harg8 arg9 harg9 arg10 harg10 arg11 harg11 hc0 x0 _ le_rfl).1

theorem out_scale_A (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : cond0_0 i) (x0 : Vec Ideal S1024x3584 .bf16) (x1 : Vec Ideal S1792x128 .i8) (x2 : Vec Ideal S1792x128 .i8) (x3 : Vec Ideal S112x128 .i32) (x4 : Vec Ideal S112x128 .i32) (x5 : Vec Ideal S1x1x256 .f32) : out0_A_8 (F := Ideal) c i arg1 harg1 arg2 harg2 arg3 harg3 arg4 harg4 arg5 harg5 arg6 harg6 arg7 harg7 arg8 harg8 arg9 harg9 arg10 harg10 arg11 harg11 hc0 x0 x1 x2 x3 x4 x5 = fun y => scaleE fun c => x0 (ix2 (y 0) c) := by
  funext y
  unfold out0_A_8
  rw [View.read_writes_apply_eq_canon VO0_8 _ y _ (cover0_A_8 c i arg1 harg1 arg2 harg2 arg3 harg3 arg4 harg4 arg5 harg5 arg6 harg6 arg7 harg7 arg8 harg8 arg9 harg9 arg10 harg10 arg11 harg11 hc0 x0 x1 x2 x3 x4 x5 y)]
  refine View.canon_apply_of_pieces (Val := Elt Ideal) (S := S1024x1) (e := .f32) (fun y => scaleE fun c => x0 (ix2 (y 0) c)) _ ?_ y (cover0_A_8 c i arg1 harg1 arg2 harg2 arg3 harg3 arg4 harg4 arg5 harg5 arg6 harg6 arg7 harg7 arg8 harg8 arg9 harg9 arg10 harg10 arg11 harg11 hc0 x0 x1 x2 x3 x4 x5 y)
  rw [run_scale_A]
  exact (trips_agree Variants.none c none i arg1 harg1 arg2 harg2 arg3 harg3 arg4 harg4 arg5 harg5 arg6 harg6 arg7 harg7 arg8 harg8 arg9 harg9 arg10 harg10 arg11 harg11 hc0 x0 _ le_rfl).2.1

theorem sout_A (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : cond0_0 i) (x0 : Vec Ideal S1024x3584 .bf16) (x1 : Vec Ideal S1792x128 .i8) (x2 : Vec Ideal S1792x128 .i8) (x3 : Vec Ideal S112x128 .i32) (x4 : Vec Ideal S112x128 .i32) (x5 : Vec Ideal S1x1x256 .f32) : sout0_A_1 (F := Ideal) c i arg1 harg1 arg2 harg2 arg3 harg3 arg4 harg4 arg5 harg5 arg6 harg6 arg7 harg7 arg8 harg8 arg9 harg9 arg10 harg10 arg11 harg11 hc0 x0 x1 x2 x3 x4 x5 = lanesE x0 := by
  funext y
  unfold sout0_A_1
  rw [View.read_writes_apply_eq_canon VS0_1 _ y _ (scover0_A_1 c i arg1 harg1 arg2 harg2 arg3 harg3 arg4 harg4 arg5 harg5 arg6 harg6 arg7 harg7 arg8 harg8 arg9 harg9 arg10 harg10 arg11 harg11 hc0 x0 x1 x2 x3 x4 x5 y)]
  refine View.canon_apply_of_pieces (Val := Elt Ideal) (S := S1024x128) (e := .f32) (lanesE x0) _ ?_ y (scover0_A_1 c i arg1 harg1 arg2 harg2 arg3 harg3 arg4 harg4 arg5 harg5 arg6 harg6 arg7 harg7 arg8 harg8 arg9 harg9 arg10 harg10 arg11 harg11 hc0 x0 x1 x2 x3 x4 x5 y)
  rw [run_xs_A]
  exact (trips_agree Variants.none c none i arg1 harg1 arg2 harg2 arg3 harg3 arg4 harg4 arg5 harg5 arg6 harg6 arg7 harg7 arg8 harg8 arg9 harg9 arg10 harg10 arg11 harg11 hc0 x0 _ le_rfl).2.2

theorem out_y_A (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : cond0_0 i) (x0 : Vec Ideal S1024x3584 .bf16) (x1 : Vec Ideal S1792x128 .i8) (x2 : Vec Ideal S1792x128 .i8) (x3 : Vec Ideal S112x128 .i32) (x4 : Vec Ideal S112x128 .i32) (x5 : Vec Ideal S1x1x256 .f32) (h3 : Distinct x3) (h4 : Distinct x4) :
    out0_A_6 (F := Ideal) c i arg1 harg1 arg2 harg2 arg3 harg3 arg4 harg4 arg5 harg5 arg6 harg6 arg7 harg7 arg8 harg8 arg9 harg9 arg10 harg10 arg11 harg11 hc0 x0 x1 x2 x3 x4 x5 = fun y => yE (codesE x0) (lanesE x0) x1 x2 x3 x4 x5 (y 0) (y 1) := by
  funext y
  unfold out0_A_6
  rw [View.read_writes_apply_eq_canon VO0_6 _ y _ (cover0_A_6 c i arg1 harg1 arg2 harg2 arg3 harg3 arg4 harg4 arg5 harg5 arg6 harg6 arg7 harg7 arg8 harg8 arg9 harg9 arg10 harg10 arg11 harg11 hc0 x0 x1 x2 x3 x4 x5 y)]
  refine View.canon_apply_of_pieces (Val := Elt Ideal) (S := S1024x256) (e := .bf16) (fun y => yE (codesE x0) (lanesE x0) x1 x2 x3 x4 x5 (y 0) (y 1)) _ ?_ y (cover0_A_6 c i arg1 harg1 arg2 harg2 arg3 harg3 arg4 harg4 arg5 harg5 arg6 harg6 arg7 harg7 arg8 harg8 arg9 harg9 arg10 harg10 arg11 harg11 hc0 x0 x1 x2 x3 x4 x5 y)
  rw [run_y_A, vals_eq, vals_eq]
  have hC : arg8.view.readCov (Val := Elt Ideal) (pb_k0_t1 (F := Ideal) Variants.none c none i arg1 harg1 arg2 harg2 arg3 harg3 arg4 harg4 arg5 harg5 arg6 harg6 arg7 harg7 arg8 harg8 arg9 harg9 arg10 harg10 arg11 harg11 hc0 (harg1.unread x0) k0_t1_loop.trips).1 (Rect.unit (s := S1024x3584) ![0, 0] S1024x3584.size (by decide)).toLoadRect = codesE x0 := by
    funext z
    refine (congrFun (View.readCov_eq_canon' _ _ _) z).trans ?_
    refine (congrArg (View.canon _) (load_whole_box (S := S1024x3584) zeros2 _ z)).trans ?_
    refine View.canon_apply_of_pieces (Val := Elt Ideal) (S := S1024x3584) (e := .fp8e4m3) (codesE x0) _
      (trips_agree Variants.none c none i arg1 harg1 arg2 harg2 arg3 harg3 arg4 harg4 arg5 harg5 arg6 harg6 arg7 harg7 arg8 harg8 arg9 harg9 arg10 harg10 arg11 harg11 hc0 x0 _ le_rfl).1 z ?_
    rw [← run_codes_A c i arg1 harg1 arg2 harg2 arg3 harg3 arg4 harg4 arg5 harg5 arg6 harg6 arg7 harg7 arg8 harg8 arg9 harg9 arg10 harg10 arg11 harg11 hc0 x0 x1 x2 x3 x4 x5]
    exact cover0_A_7 c i arg1 harg1 arg2 harg2 arg3 harg3 arg4 harg4 arg5 harg5 arg6 harg6 arg7 harg7 arg8 harg8 arg9 harg9 arg10 harg10 arg11 harg11 hc0 x0 x1 x2 x3 x4 x5 z
  have hX : arg11.view.readCov (Val := Elt Ideal) (pb_k0_t1 (F := Ideal) Variants.none c none i arg1 harg1 arg2 harg2 arg3 harg3 arg4 harg4 arg5 harg5 arg6 harg6 arg7 harg7 arg8 harg8 arg9 harg9 arg10 harg10 arg11 harg11 hc0 (harg1.unread x0) k0_t1_loop.trips).2.2 (Rect.unit (s := S1024x128) ![0, 0] S1024x128.size (by decide)).toLoadRect = lanesE x0 := by
    funext z
    refine (congrFun (View.readCov_eq_canon' _ _ _) z).trans ?_
    refine (congrArg (View.canon _) (load_whole_box (S := S1024x128) zeros2 _ z)).trans ?_
    refine View.canon_apply_of_pieces (Val := Elt Ideal) (S := S1024x128) (e := .f32) (lanesE x0) _
      (trips_agree Variants.none c none i arg1 harg1 arg2 harg2 arg3 harg3 arg4 harg4 arg5 harg5 arg6 harg6 arg7 harg7 arg8 harg8 arg9 harg9 arg10 harg10 arg11 harg11 hc0 x0 _ le_rfl).2.2 z ?_
    rw [← run_xs_A c i arg1 harg1 arg2 harg2 arg3 harg3 arg4 harg4 arg5 harg5 arg6 harg6 arg7 harg7 arg8 harg8 arg9 harg9 arg10 harg10 arg11 harg11 hc0 x0 x1 x2 x3 x4 x5]
    exact scover0_A_1 c i arg1 harg1 arg2 harg2 arg3 harg3 arg4 harg4 arg5 harg5 arg6 harg6 arg7 harg7 arg8 harg8 arg9 harg9 arg10 harg10 arg11 harg11 hc0 x0 x1 x2 x3 x4 x5 z
  rw [hC, hX]
  exact yPieces_agree arg4 harg4 arg5 harg5 x1 x2 x3 x4 h3 h4 x5 _ _ _ _ _ (ws_low arg6 harg6 x5 _) (ws_high arg6 harg6 x5 _)

theorem out_y_B (c : Dev nD) (i : grid0.Coords) (arg1 : Memref sig .tc .vmem S1024x3584 .bf16) (harg1 : arg1.IsWhole) (arg2 : Memref sig .tc .vmem S1792x128 .i8) (harg2 : arg2.IsWhole) (arg3 : Memref sig .tc .vmem S1792x128 .i8) (harg3 : arg3.IsWhole) (arg4 : Memref sig .tc .vmem S112x128 .i32) (harg4 : arg4.IsWhole) (arg5 : Memref sig .tc .vmem S112x128 .i32) (harg5 : arg5.IsWhole) (arg6 : Memref sig .tc .vmem S1x1x256 .f32) (harg6 : arg6.IsWhole) (arg7 : Memref sig .tc .vmem S1024x256 .bf16) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S2x896x128 .i32) (harg10 : arg10.IsWhole) (arg11 : Memref sig .tc .vmem S1024x128 .f32) (harg11 : arg11.IsWhole) (hc0 : ¬cond0_0 i) (x0 : Vec Ideal S1024x3584 .bf16) (x1 : Vec Ideal S1792x128 .i8) (x2 : Vec Ideal S1792x128 .i8) (x3 : Vec Ideal S112x128 .i32) (x4 : Vec Ideal S112x128 .i32) (x5 : Vec Ideal S1x1x256 .f32) (xo7 : Vec Ideal S1024x3584 .fp8e4m3) (xo8 : Vec Ideal S1024x1 .f32) (xs1 : Vec Ideal S1024x128 .f32) (h3 : Distinct x3) (h4 : Distinct x4) :
    out0_B_6 (F := Ideal) c i arg1 harg1 arg2 harg2 arg3 harg3 arg4 harg4 arg5 harg5 arg6 harg6 arg7 harg7 arg8 harg8 arg9 harg9 arg10 harg10 arg11 harg11 hc0 x0 x1 x2 x3 x4 x5 xo7 xo8 xs1 = fun y => yE xo7 xs1 x1 x2 x3 x4 x5 (y 0) (y 1) := by
  funext y
  unfold out0_B_6
  rw [View.read_writes_apply_eq_canon VO0_6 _ y _ (cover0_B_6 c i arg1 harg1 arg2 harg2 arg3 harg3 arg4 harg4 arg5 harg5 arg6 harg6 arg7 harg7 arg8 harg8 arg9 harg9 arg10 harg10 arg11 harg11 hc0 x0 x1 x2 x3 x4 x5 xo7 xo8 xs1 y)]
  refine View.canon_apply_of_pieces (Val := Elt Ideal) (S := S1024x256) (e := .bf16) (fun y => yE xo7 xs1 x1 x2 x3 x4 x5 (y 0) (y 1)) _ ?_ y (cover0_B_6 c i arg1 harg1 arg2 harg2 arg3 harg3 arg4 harg4 arg5 harg5 arg6 harg6 arg7 harg7 arg8 harg8 arg9 harg9 arg10 harg10 arg11 harg11 hc0 x0 x1 x2 x3 x4 x5 xo7 xo8 xs1 y)
  rw [run_y_B, vals_eq, vals_eq]
  have hC : View.readAt (Elt Ideal) arg8.view (Rect.unit (s := S1024x3584) ![0, 0] S1024x3584.size (by decide)).toLoadRect (harg8.unread xo7) = xo7 := by
    funext z
    exact (Memref.IsWhole.readAt_unread _ _ _ _).trans (congrArg xo7 (load_whole_box (S := S1024x3584) zeros2 _ z))
  have hX : View.readAt (Elt Ideal) arg11.view (Rect.unit (s := S1024x128) ![0, 0] S1024x128.size (by decide)).toLoadRect (harg11.unread xs1) = xs1 := by
    funext z
    exact (Memref.IsWhole.readAt_unread _ _ _ _).trans (congrArg xs1 (load_whole_box (S := S1024x128) zeros2 _ z))
  rw [hC, hX]
  exact yPieces_agree arg4 harg4 arg5 harg5 x1 x2 x3 x4 h3 h4 x5 _ _ _ _ _ (ws_low arg6 harg6 x5 _) (ws_high arg6 harg6 x5 _)

end Cert.KernelIdeal.Hand
end
-- ==== Proof.Spec.lean ====
/- The codes, the scales and the products, as functions of the arguments. -/
module
public import proofs.«01_k».proof.Proof.KQuant
public import proofs.«01_k».proof.Proof.Dense
@[expose] public section
noncomputable section
namespace Cert.Spec
open Cert.Dense Idealize.ShloMosaic Idealize.ShloMosaic.Tactic
open Cert.KernelIdeal.Hand (codeOf invE scaleE)

/-- Row `r` of the tokens, laid out as one matrix. -/
def row (x : (⟨3, ![2, 512, 3584]⟩ : Shape).Idx → EReal) (r : Fin 1024) (k : Fin 3584) : EReal :=
  x (ix3 ⟨r.val / 512, by omega⟩ ⟨r.val % 512, Nat.mod_lt _ (by decide)⟩ k)

/-- The byte of the dense weights at row `k` and column `n`: a kept byte at its position, zero elsewhere. -/
def byte (v : (⟨2, ![1792, 18944]⟩ : Shape).Idx → BitVec 8) (w : (⟨2, ![112, 18944]⟩ : Shape).Idx → BitVec 32)
    (k : Fin 3584) (n : Fin 18944) : BitVec 8 :=
  if posAt (w (ix2 ⟨k.val / 32, by omega⟩ n)) (4 * (k.val / 4 % 8)) = k.val % 4 then v (ix2 ⟨2 * (k.val / 4), by omega⟩ n)
  else if posAt (w (ix2 ⟨k.val / 32, by omega⟩ n)) (4 * (k.val / 4 % 8) + 2) = k.val % 4 then v (ix2 ⟨2 * (k.val / 4) + 1, by omega⟩ n)
  else 0#8

/-- The codes, one row scaled at a time. -/
def code (x : (⟨3, ![2, 512, 3584]⟩ : Shape).Idx → EReal) (r : Fin 1024) (k : Fin 3584) : EReal :=
  codeOf (row x r k) (invE (row x r))

/-- The scale of a row. -/
def scale (x : (⟨3, ![2, 512, 3584]⟩ : Shape).Idx → EReal) (r : Fin 1024) : EReal := scaleE (row x r)

/-- The result: codes times dense weights, times the row's scale, times the column's scale. -/
def y (x : (⟨3, ![2, 512, 3584]⟩ : Shape).Idx → EReal) (v : (⟨2, ![1792, 18944]⟩ : Shape).Idx → BitVec 8)
    (w : (⟨2, ![112, 18944]⟩ : Shape).Idx → BitVec 32) (s : (⟨1, ![18944]⟩ : Shape).Idx → EReal) (r : Fin 1024) (n : Fin 18944) : EReal :=
  (∑ k : Fin 3584, code x r k * Ideal.ofBits .fp8e4m3 (byte v w k n)) * scale x r * s (ix1 n)

/-- The two positions of every group differ. -/
def Distinct (w : (⟨2, ![112, 18944]⟩ : Shape).Idx → BitVec 32) : Prop :=
  ∀ (r : Fin 112) (n : Fin 18944) (j : ℕ), j < 8 → posAt (w (ix2 r n)) (4 * j) ≠ posAt (w (ix2 r n)) (4 * j + 2)

end Cert.Spec
-- ==== Proof.KFinal.lean ====
/- The arrays that the kernel leaves, as the functions of the specification. -/
module
public import proofs.«01_k».proof.Proof.KOut
public import proofs.«01_k».proof.Proof.Spec
@[expose] public section
set_option maxRecDepth 16384
noncomputable section
namespace Cert.KernelIdeal.Hand
open Cert.KernelIdeal Cert.KernelIdeal.Gen Cert.Dense
open Idealize.ShloMosaic Idealize.ShloMosaic.TcCoe Idealize.ShloMosaic.Tactic

variable (m : (ℓ : Loc nD τ sig) → Buf (Elt Ideal) ℓ)

/-- Where the windows' blocks lie. -/
theorem blk_facts : ∀ t : Fin cfg0.N, win0_0.index t (0 : Fin 2) = 0 ∧ win0_0.index t (1 : Fin 2) = 0
    ∧ win0_1.index t (0 : Fin 2) = 0 ∧ win0_1.index t (1 : Fin 2) = 2 * t.val
    ∧ win0_2.index t (0 : Fin 2) = 0 ∧ win0_2.index t (1 : Fin 2) = 2 * t.val + 1
    ∧ win0_3.index t (0 : Fin 2) = 0 ∧ win0_3.index t (1 : Fin 2) = 2 * t.val
    ∧ win0_4.index t (0 : Fin 2) = 0 ∧ win0_4.index t (1 : Fin 2) = 2 * t.val + 1
    ∧ win0_5.index t (0 : Fin 3) = t.val ∧ win0_5.index t (1 : Fin 3) = 0 ∧ win0_5.index t (2 : Fin 3) = 0 :=
  (by decide +kernel : ∀ t : Fin grid0.N, _)

theorem V_v0 (c : Dev nD) : V m c main_v0 = shapeCast S1024x3584 (m ((c : Thread nD τ).loc main_arg0)) shapeCasts_S2x512x3584_S1024x3584 := by
  show StableHlo.after hostOps0 (fun b => m (c, b)) main_v0 = _
  simp only [hostOps0]
  after_results
  rfl

theorem V_v1 (c : Dev nD) : V m c main_v1 = shapeCast S74x1x256 (m ((c : Thread nD τ).loc main_arg3)) shapeCasts_S18944_S74x1x256 := by
  show StableHlo.after hostOps0 (fun b => m (c, b)) main_v1 = _
  simp only [hostOps0]
  after_results
  rfl

theorem blk0 (c : Dev nD) (t : Fin cfg0.N) (r : Fin 1024) (k : Fin 3584) :
    iblk m c 0 t (ix2 r k) = Spec.row (m ((c : Thread nD τ).loc main_arg0)) r k := by
  obtain ⟨e0, e1, -⟩ := blk_facts t
  show V m c main_v0 (((cfg0.win 0).blk t).view.emb (ix2 r k)) = _
  rw [show ((cfg0.win 0).blk t).view.emb (ix2 r k) = (ix2 r k : S1024x3584.Idx) from funext fun a => Fin.ext (by
    match a with
    | ⟨0, _⟩ => show win0_0.index t (0 : Fin 2) * 1024 + 1 * r.val = r.val; omega
    | ⟨1, _⟩ => show win0_0.index t (1 : Fin 2) * 3584 + 1 * k.val = k.val; omega), V_v0]
  refine shapeCast_apply _ _ _ _ ?_
  show (S2x512x3584.rowMajor _).val = _
  rw [Shape.rowMajor_val_three, Shape.rowMajor_val_two]
  show (r.val / 512 * 512 + r.val % 512) * 3584 + k.val = r.val * 3584 + k.val
  omega

theorem blk1 (c : Dev nD) (t : Fin cfg0.N) (r : Fin 1792) (l : Fin 128) (n : Fin 18944) (hn : n.val = 256 * t.val + l.val) :
    iblk m c 1 t (ix2 r l) = m ((c : Thread nD τ).loc main_arg1) (ix2 r n) := by
  obtain ⟨-, -, e0, e1, -⟩ := blk_facts t
  show V m c main_arg1 (((cfg0.win 1).blk t).view.emb (ix2 r l)) = _
  rw [show ((cfg0.win 1).blk t).view.emb (ix2 r l) = (ix2 r n : S1792x18944.Idx) from funext fun a => Fin.ext (by
    match a with
    | ⟨0, _⟩ => show win0_1.index t (0 : Fin 2) * 1792 + 1 * r.val = r.val; omega
    | ⟨1, _⟩ => show win0_1.index t (1 : Fin 2) * 128 + 1 * l.val = n.val; omega), V_main_arg1]

theorem blk2 (c : Dev nD) (t : Fin cfg0.N) (r : Fin 1792) (l : Fin 128) (n : Fin 18944) (hn : n.val = 256 * t.val + 128 + l.val) :
    iblk m c 2 t (ix2 r l) = m ((c : Thread nD τ).loc main_arg1) (ix2 r n) := by
  obtain ⟨-, -, -, -, e0, e1, -⟩ := blk_facts t
  show V m c main_arg1 (((cfg0.win 2).blk t).view.emb (ix2 r l)) = _
  rw [show ((cfg0.win 2).blk t).view.emb (ix2 r l) = (ix2 r n : S1792x18944.Idx) from funext fun a => Fin.ext (by
    match a with
    | ⟨0, _⟩ => show win0_2.index t (0 : Fin 2) * 1792 + 1 * r.val = r.val; omega
    | ⟨1, _⟩ => show win0_2.index t (1 : Fin 2) * 128 + 1 * l.val = n.val; omega), V_main_arg1]

theorem blk3 (c : Dev nD) (t : Fin cfg0.N) (r : Fin 112) (l : Fin 128) (n : Fin 18944) (hn : n.val = 256 * t.val + l.val) :
    iblk m c 3 t (ix2 r l) = m ((c : Thread nD τ).loc main_arg2) (ix2 r n) := by
  obtain ⟨-, -, -, -, -, -, e0, e1, -⟩ := blk_facts t
  show V m c main_arg2 (((cfg0.win 3).blk t).view.emb (ix2 r l)) = _
  rw [show ((cfg0.win 3).blk t).view.emb (ix2 r l) = (ix2 r n : S112x18944.Idx) from funext fun a => Fin.ext (by
    match a with
    | ⟨0, _⟩ => show win0_3.index t (0 : Fin 2) * 112 + 1 * r.val = r.val; omega
    | ⟨1, _⟩ => show win0_3.index t (1 : Fin 2) * 128 + 1 * l.val = n.val; omega), V_main_arg2]

theorem blk4 (c : Dev nD) (t : Fin cfg0.N) (r : Fin 112) (l : Fin 128) (n : Fin 18944) (hn : n.val = 256 * t.val + 128 + l.val) :
    iblk m c 4 t (ix2 r l) = m ((c : Thread nD τ).loc main_arg2) (ix2 r n) := by
  obtain ⟨-, -, -, -, -, -, -, -, e0, e1, -⟩ := blk_facts t
  show V m c main_arg2 (((cfg0.win 4).blk t).view.emb (ix2 r l)) = _
  rw [show ((cfg0.win 4).blk t).view.emb (ix2 r l) = (ix2 r n : S112x18944.Idx) from funext fun a => Fin.ext (by
    match a with
    | ⟨0, _⟩ => show win0_4.index t (0 : Fin 2) * 112 + 1 * r.val = r.val; omega
    | ⟨1, _⟩ => show win0_4.index t (1 : Fin 2) * 128 + 1 * l.val = n.val; omega), V_main_arg2]

theorem blk5 (c : Dev nD) (t : Fin cfg0.N) (l : Fin 256) (n : Fin 18944) (hn : n.val = 256 * t.val + l.val) :
    iblk m c 5 t (ix3 0 0 l) = m ((c : Thread nD τ).loc main_arg3) (ix1 n) := by
  obtain ⟨-, -, -, -, -, -, -, -, -, -, e0, e1, e2⟩ := blk_facts t
  show V m c main_v1 (((cfg0.win 5).blk t).view.emb (ix3 0 0 l)) = _
  have hN : t.val < 74 := lt_of_lt_of_eq t.isLt N_0
  rw [show ((cfg0.win 5).blk t).view.emb (ix3 0 0 l) = (ix3 ⟨t.val, hN⟩ 0 l : S74x1x256.Idx) from funext fun a => Fin.ext (by
    match a with
    | ⟨0, _⟩ => show win0_5.index t (0 : Fin 3) * 1 + 1 * 0 = t.val; omega
    | ⟨1, _⟩ => show win0_5.index t (1 : Fin 3) * 1 + 1 * 0 = 0; omega
    | ⟨2, _⟩ => show win0_5.index t (2 : Fin 3) * 256 + 1 * l.val = l.val; omega), V_v1]
  refine shapeCast_apply _ _ _ _ ?_
  show (S18944.rowMajor _).val = _
  rw [Shape.rowMajor_val_three, Shape.rowMajor_val_one]
  show n.val = (t.val * 1 + 0) * 256 + l.val
  omega

theorem row_blk (c : Dev nD) (t : Fin cfg0.N) (r : Fin 1024) :
    (fun k => iblk m c 0 t (ix2 r k)) = Spec.row (m ((c : Thread nD τ).loc main_arg0)) r := funext fun k => blk0 m c t r k

/-- The codes that the first point leaves. -/
theorem codes_blk (c : Dev nD) (t : Fin cfg0.N) (y : S1024x3584.Idx) :
    codesE (iblk m c 0 t) y = Spec.code (m ((c : Thread nD τ).loc main_arg0)) (y 0) (y 1) := by
  obtain ⟨r, k, rfl⟩ : ∃ (r : Fin 1024) (k : Fin 3584), y = ix2 r k := ⟨y 0, y 1, by funext a; match a with | ⟨0, _⟩ => rfl | ⟨1, _⟩ => rfl⟩
  show codeOf (iblk m c 0 t (ix2 r k)) (invE fun k => iblk m c 0 t (ix2 r k)) = _
  rw [row_blk, blk0]; rfl

theorem lanes_blk (c : Dev nD) (t : Fin cfg0.N) (y : S1024x128.Idx) :
    lanesE (iblk m c 0 t) y = Spec.scale (m ((c : Thread nD τ).loc main_arg0)) (y 0) := by
  exact congrArg scaleE (row_blk m c t (y 0))

theorem distinct3 (c : Dev nD) (hd : Spec.Distinct (m ((c : Thread nD τ).loc main_arg2))) (t : Fin cfg0.N) : Distinct (iblk m c 3 t) := by
  have hN : t.val < 74 := lt_of_lt_of_eq t.isLt N_0
  intro r l j hj
  rw [blk3 m c t r l ⟨256 * t.val + l.val, by omega⟩ rfl]
  exact hd _ _ _ hj

theorem distinct4 (c : Dev nD) (hd : Spec.Distinct (m ((c : Thread nD τ).loc main_arg2))) (t : Fin cfg0.N) : Distinct (iblk m c 4 t) := by
  have hN : t.val < 74 := lt_of_lt_of_eq t.isLt N_0
  intro r l j hj
  rw [blk4 m c t r l ⟨256 * t.val + 128 + l.val, by omega⟩ rfl]
  exact hd _ _ _ hj

/-- A block of the result at an index, read off the arrays. -/
theorem y_blk (c : Dev nD) (t : Fin cfg0.N) (r : Fin 1024) (col : Fin 256) (n : Fin 18944) (hn : n.val = 256 * t.val + col.val) :
    yE (fun y => Spec.code (m ((c : Thread nD τ).loc main_arg0)) (y 0) (y 1)) (fun y => Spec.scale (m ((c : Thread nD τ).loc main_arg0)) (y 0))
      (iblk m c 1 t) (iblk m c 2 t) (iblk m c 3 t) (iblk m c 4 t) (iblk m c 5 t) r col
      = Spec.y (m ((c : Thread nD τ).loc main_arg0)) (m ((c : Thread nD τ).loc main_arg1)) (m ((c : Thread nD τ).loc main_arg2))
          (m ((c : Thread nD τ).loc main_arg3)) r n := by
  have hb : ∀ k : Fin 3584, denseE (iblk m c 1 t) (iblk m c 2 t) (iblk m c 3 t) (iblk m c 4 t) k col
      = Ideal.ofBits .fp8e4m3 (Spec.byte (m ((c : Thread nD τ).loc main_arg1)) (m ((c : Thread nD τ).loc main_arg2)) k n) := by
    intro k
    unfold denseE
    congr 1
    unfold denseByte Spec.byte
    by_cases h : col.val < 128
    · simp only [if_pos h]
      rw [blk3 m c t _ _ n (by show n.val = 256 * t.val + col.val % 128; omega), blk1 m c t _ _ n (by show n.val = 256 * t.val + col.val % 128; omega),
        blk1 m c t _ _ n (by show n.val = 256 * t.val + col.val % 128; omega)]
    · simp only [if_neg h]
      rw [blk4 m c t _ _ n (by show n.val = 256 * t.val + 128 + col.val % 128; omega), blk2 m c t _ _ n (by show n.val = 256 * t.val + 128 + col.val % 128; omega),
        blk2 m c t _ _ n (by show n.val = 256 * t.val + 128 + col.val % 128; omega)]
  unfold yE Spec.y
  simp only [hb]
  rw [blk5 m c t col n hn]
  rfl

/-- What the points leave: the codes, the scales, and the scales along the lanes. -/
theorem outs_kept (c : Dev nD) : ∀ (n : ℕ) (hn : n < cfg0.N),
    (outsAt0 m c n hn).2.1 = (fun y => Spec.code (m ((c : Thread nD τ).loc main_arg0)) (y 0) (y 1))
    ∧ (outsAt0 m c n hn).2.2.1 = (fun y => Spec.scale (m ((c : Thread nD τ).loc main_arg0)) (y 0))
    ∧ (outsAt0 m c n hn).2.2.2 = (fun y => Spec.scale (m ((c : Thread nD τ).loc main_arg0)) (y 0))
  | 0, hn => by
    rw [outsAt0_A m c ⟨0, hn⟩ (Nat.zero_mod _)]
    refine ⟨?_, ?_, ?_⟩
    · refine (out_codes_A ..).trans (funext fun y => codes_blk m c _ y)
    · refine (out_scale_A ..).trans (funext fun y => ?_)
      exact congrArg scaleE (row_blk m c _ (y 0))
    · refine (sout_A ..).trans (funext fun y => lanes_blk m c _ y)
  | n + 1, hn => by
    have h0 : ¬(n + 1) % 74 = 0 := by
      have := lt_of_lt_of_eq hn N_0
      omega
    have ih := outs_kept c n (Nat.lt_of_succ_lt hn)
    rw [outsAt0_B m c ⟨n + 1, hn⟩ h0]
    exact ih

/-- What a point leaves in the result's block. -/
theorem outs_y (c : Dev nD) (hd : Spec.Distinct (m ((c : Thread nD τ).loc main_arg2))) (t : Fin cfg0.N) (y : S1024x256.Idx) (n : Fin 18944)
    (hn : n.val = 256 * t.val + (y 1).val) :
    (outsAt0 m c t.val t.isLt).1 y = Spec.y (m ((c : Thread nD τ).loc main_arg0)) (m ((c : Thread nD τ).loc main_arg1)) (m ((c : Thread nD τ).loc main_arg2))
          (m ((c : Thread nD τ).loc main_arg3)) (y 0) n := by
  by_cases h0 : t.val % 74 = 0
  · have e := out_y_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (distinct3 m c hd t) (distinct4 m c hd t)
    have e2 : (outsAt0 m c t.val t.isLt).1 = fun y => yE (codesE (iblk m c 0 t)) (lanesE (iblk m c 0 t)) (iblk m c 1 t) (iblk m c 2 t) (iblk m c 3 t) (iblk m c 4 t) (iblk m c 5 t) (y 0) (y 1) := by
      rw [outsAt0_A m c t h0]
      dsimp only
      rw [e]
    rw [e2]
    show yE (codesE (iblk m c 0 t)) (lanesE (iblk m c 0 t)) (iblk m c 1 t) (iblk m c 2 t) (iblk m c 3 t) (iblk m c 4 t) (iblk m c 5 t) (y 0) (y 1) = _
    rw [show codesE (iblk m c 0 t) = (fun y => Spec.code (m ((c : Thread nD τ).loc main_arg0)) (y 0) (y 1)) from funext fun y => codes_blk m c t y,
      show lanesE (iblk m c 0 t) = (fun y => Spec.scale (m ((c : Thread nD τ).loc main_arg0)) (y 0)) from funext fun y => lanes_blk m c t y]
    exact y_blk m c t (y 0) (y 1) n hn
  · have e := out_y_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (distinct3 m c hd t) (distinct4 m c hd t)
    have e2 : (outsAt0 m c t.val t.isLt).1 = fun y => yE ((outsAt0 m c (t.val - 1) (Nat.lt_of_le_of_lt (Nat.sub_le _ _) t.isLt)).2.1) ((outsAt0 m c (t.val - 1) (Nat.lt_of_le_of_lt (Nat.sub_le _ _) t.isLt)).2.2.2) (iblk m c 1 t) (iblk m c 2 t) (iblk m c 3 t) (iblk m c 4 t) (iblk m c 5 t) (y 0) (y 1) := by
      rw [outsAt0_B m c t h0]
      dsimp only
      rw [e]
    rw [e2]
    show yE ((outsAt0 m c (t.val - 1) (Nat.lt_of_le_of_lt (Nat.sub_le _ _) t.isLt)).2.1) ((outsAt0 m c (t.val - 1) (Nat.lt_of_le_of_lt (Nat.sub_le _ _) t.isLt)).2.2.2) (iblk m c 1 t) (iblk m c 2 t) (iblk m c 3 t) (iblk m c 4 t) (iblk m c 5 t) (y 0) (y 1) = _
    obtain ⟨k1, -, k3⟩ := outs_kept m c (t.val - 1) (Nat.lt_of_le_of_lt (Nat.sub_le _ _) t.isLt)
    rw [k1, k3]
    exact y_blk m c t (y 0) (y 1) n hn

theorem G8_eq (c : Dev nD) : Value.G8 m c = fun y => Spec.scale (m ((c : Thread nD τ).loc main_arg0)) (y 0) := by
  rw [Value.G8_last]
  exact (congrArg (fun z => z.2.2.1) (Value.outsAt0_sweep m c 73 (lt_of_lt_of_eq (by decide) N_0.symm))).symm.trans (outs_kept m c 73 _).2.1

theorem G7_eq (c : Dev nD) : Value.G7 m c = fun y => Spec.code (m ((c : Thread nD τ).loc main_arg0)) (y 0) (y 1) := by
  rw [Value.G7_last]
  exact (congrArg (fun z => z.2.1) (Value.outsAt0_sweep m c 73 (lt_of_lt_of_eq (by decide) N_0.symm))).symm.trans (outs_kept m c 73 _).1

theorem G6_eq (c : Dev nD) (hd : Spec.Distinct (m ((c : Thread nD τ).loc main_arg2))) :
    Value.G6 m c = fun i => Spec.y (m ((c : Thread nD τ).loc main_arg0)) (m ((c : Thread nD τ).loc main_arg1)) (m ((c : Thread nD τ).loc main_arg2))
          (m ((c : Thread nD τ).loc main_arg3)) (i 0) (i 1) := by
  funext i
  have h0 : (i 0).val < 1024 := (i 0).isLt
  have h1 : (i 1).val < 18944 := (i 1).isLt
  have hp : Value.pt6Of i = (i 1).val / 256 := by
    show 74 * ((i 0).val / 1024 - 0) + 1 * ((i 1).val / 256 - 0) = _
    omega
  have hlt : Value.pt6Of i < cfg0.N := lt_of_lt_of_eq (by rw [hp]; omega) N_0.symm
  unfold Value.G6
  rw [dif_pos hlt]
  refine (congrFun (congrArg (fun z => z.1) (Value.outsAt0_sweep m c (Value.pt6Of i) hlt)).symm (Value.loc6Of i)).trans ?_
  refine (outs_y m c hd ⟨Value.pt6Of i, hlt⟩ (Value.loc6Of i) (i 1) ?_).trans ?_
  · show (i 1).val = 256 * Value.pt6Of i + (i 1).val % 256
    omega
  · rw [show (Value.loc6Of i 0 : Fin 1024) = i 0 from Fin.ext (Nat.mod_eq_of_lt h0)]

end Cert.KernelIdeal.Hand
-- ==== Proof.RHost.lean ====
/- The arrays that the host part of the reference hands to its body. -/
module
public import proofs.«01_k».proof.Proof.Gen.ReferenceIdeal.Value
public import proofs.«01_k».proof.Proof.Spec
@[expose] public section
set_option maxRecDepth 16384
noncomputable section
namespace Cert.ReferenceIdeal.Hand
open Cert.ReferenceIdeal Cert.ReferenceIdeal.Gen
open Idealize.ShloMosaic Idealize.ShloMosaic.TcCoe Idealize.ShloMosaic.Tactic
variable (m : (ℓ : Loc nD τ sig) → Buf (Elt Ideal) ℓ)

attribute [local irreducible] Host.reduce Idealize.ShloMosaic.shapeCast

/-- The tokens as one matrix. -/
def xR (x : Vec Ideal S2x512x3584 .bf16) : Vec Ideal S1024x3584 .f32 :=
  extf .f32 (shapeCast S1024x3584 x shapeCasts_S2x512x3584_S1024x3584 : FVec Ideal S1024x3584 .bf16) bitsLt_bf16_f32

/-- Each row's greatest magnitude times the constant. -/
def argR (x : Vec Ideal S2x512x3584 .bf16) : Vec Ideal S1024x1 .f32 :=
  mulf (broadcastInDim S1024x1 ![0] bcast_S1024_S1024x1_0
      (Host.reduce (FloatOps.maximumf (F := Ideal) (φ := .f32)) (Host.absf (F := Ideal) (φ := .f32) (xR x)) (constant (F := Ideal) S_ .f32 0xFF800000#32) reducesTo_S1024x3584_S1024_d1 h_S_ : FVec Ideal S1024 .f32) : FVec Ideal S1024x1 .f32)
    (broadcastInDim S1024x1 ![] bcast_S_S1024x1 (constant (F := Ideal) S_ .f32 0x3B124925#32))

/-- The powers of two. -/
def powR : Vec Ideal S1x252 .f32 :=
  broadcastInDim S1x252 ![1] bcast_S252_S1x252_1
    (Host.powf (broadcastInDim S252 ![] bcast_S_S252 (constant (F := Ideal) S_ .f32 0x40000000#32) : FVec Ideal S252 .f32)
      (addf (broadcastInDim S252 ![] bcast_S_S252 (constant (F := Ideal) S_ .f32 0xC2FA0000#32) : FVec Ideal S252 .f32) (sitofp .f32 (iotaInDim S252 32 0))))

/-- The powers above the argument, infinity in the place of the others. -/
def aboveR (v : FVec Ideal S1024x1 .f32) : FVec Ideal S1024x252 .f32 :=
  select (cmpf .olt (broadcastInDim S1024x252 ![0, 1] bcast_S1024x1_S1024x252_0_1 v) (broadcastInDim S1024x252 ![0, 1] bcast_S1x252_S1024x252_0_1 powR))
    (broadcastInDim S1024x252 ![0, 1] bcast_S1x252_S1024x252_0_1 powR)
    (broadcastInDim S1024x252 ![] bcast_S_S1024x252 (constant (F := Ideal) S_ .f32 0x7F800000#32))

/-- The scale of each row. -/
def scaleR (v : FVec Ideal S1024x1 .f32) : FVec Ideal S1024x1 .f32 :=
  select (ori (cmpf .olt v (broadcastInDim S1024x1 ![] bcast_S_S1024x1 (constant (F := Ideal) S_ .f32 0x00800000#32)))
      (cmpf .oeq v (broadcastInDim S1024x1 ![] bcast_S_S1024x1 (constant (F := Ideal) S_ .f32 0x7F800000#32))))
    (broadcastInDim S1024x1 ![] bcast_S_S1024x1 (constant (F := Ideal) S_ .f32 0x3F800000#32))
    (broadcastInDim S1024x1 ![0] bcast_S1024_S1024x1_0
      (Host.reduce (FloatOps.minimumf (F := Ideal) (φ := .f32)) (aboveR v) (constant (F := Ideal) S_ .f32 0x7F800000#32) reducesTo_S1024x252_S1024_d1 h_S_ : FVec Ideal S1024 .f32))

/-- The scaled and clipped entries. -/
def scaledR (x : FVec Ideal S1024x3584 .f32) (s : FVec Ideal S1024x1 .f32) : FVec Ideal S1024x3584 .f32 :=
  minimumf (broadcastInDim S1024x3584 ![] bcast_S_S1024x3584 (constant (F := Ideal) S_ .f32 0x43E00000#32))
    (maximumf (broadcastInDim S1024x3584 ![] bcast_S_S1024x3584 (constant (F := Ideal) S_ .f32 0xC3E00000#32))
      (Host.divf x (broadcastInDim S1024x3584 ![0, 1] bcast_S1024x1_S1024x3584_0_1 s)))

/-- The first positions, and with `two` the second ones. -/
def posR (w : IVec S112x18944 32) (sh : IVec S1x8x1 32) : IVec S112x8x18944 32 :=
  andi (Host.shrsi (broadcastInDim S112x8x18944 ![0, 1, 2] bcast_S112x1x18944_S112x8x18944_0_1_2 (broadcastInDim S112x1x18944 ![0, 2] bcast_S112x18944_S112x1x18944_0_2 w))
      (broadcastInDim S112x8x18944 ![0, 1, 2] bcast_S1x8x1_S112x8x18944_0_1_2 sh))
    (broadcastInDim S112x8x18944 ![] bcast_S_S112x8x18944 (constantI S_ 32 3#32))

/-- The first positions' shifts. -/
def shR : IVec S1x8x1 32 :=
  muli (broadcastInDim S1x8x1 ![] bcast_S_S1x8x1 (constantI S_ 32 4#32)) (broadcastInDim S1x8x1 ![1] bcast_S8_S1x8x1_1 (iotaInDim S8 32 0))

theorem V_v24 (c : Dev nD) : V m c main_v24 = scaleR (argR (m ((c : Thread nD τ).loc main_arg0))) := by
  show StableHlo.after _ (fun b => m (c, b)) main_v24 = _
  simp only [hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq, id_eq]
  unfold scaleR aboveR argR powR xR
  rfl

theorem V_v27 (c : Dev nD) : V m c main_v27 = scaledR (xR (m ((c : Thread nD τ).loc main_arg0))) (scaleR (argR (m ((c : Thread nD τ).loc main_arg0)))) := by
  show StableHlo.after _ (fun b => m (c, b)) main_v27 = _
  simp only [hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq, id_eq]
  unfold scaledR scaleR aboveR argR powR xR
  rfl

theorem V_v37 (c : Dev nD) : V m c main_v37 = posR (m ((c : Thread nD τ).loc main_arg2)) shR := by
  show StableHlo.after _ (fun b => m (c, b)) main_v37 = _
  simp only [hostOps0, hostOps0_1, hostOps0_2, hostOps0_3, hostOps0_4, hostOps0_5, hostOps0_6, List.flatten_cons, List.flatten_nil, List.append_nil, List.cons_append, List.nil_append]
  after_results
  rfl

theorem V_v46 (c : Dev nD) : V m c main_v46 = posR (m ((c : Thread nD τ).loc main_arg2))
    (addi shR (broadcastInDim S1x8x1 ![] bcast_S_S1x8x1 (constantI S_ 32 2#32))) := by
  show StableHlo.after _ (fun b => m (c, b)) main_v46 = _
  simp only [hostOps0, hostOps0_1, hostOps0_2, hostOps0_3, hostOps0_4, hostOps0_5, hostOps0_6, List.flatten_cons, List.flatten_nil, List.append_nil, List.cons_append, List.nil_append]
  after_results
  rfl

theorem V_v47 (c : Dev nD) : V m c main_v47 = shapeCast S1x18944 (m ((c : Thread nD τ).loc main_arg3)) shapeCasts_S18944_S1x18944 := by
  show StableHlo.after _ (fun b => m (c, b)) main_v47 = _
  simp only [hostOps0, hostOps0_1, hostOps0_2, hostOps0_3, hostOps0_4, hostOps0_5, hostOps0_6, List.flatten_cons, List.flatten_nil, List.append_nil, List.cons_append, List.nil_append]
  after_results
  rfl

end Cert.ReferenceIdeal.Hand
-- ==== Proof.RQuant.lean ====
/- The scale of the reference, an infimum over powers of two, is the one of the kernel. -/
module
public import proofs.«01_k».proof.Proof.RHost
@[expose] public section
set_option maxRecDepth 16384
noncomputable section
namespace Cert.ReferenceIdeal.Hand
open Cert.Quant Idealize.ShloMosaic Idealize.ShloMosaic.Tactic
open Cert.KernelIdeal.Hand (rowArg eabs codeOf invE scaleE)

theorem bits_norm : Ideal.ofBits .f32 0x00800000#32 = (((2 : ℝ) ^ (-126 : ℤ) : ℝ) : EReal) := by
  have := pw_mid 1 (by omega) (by omega)
  simpa [pw] using this

theorem bits_inf : Ideal.ofBits .f32 0x7F800000#32 = (⊤ : EReal) := by simp [Ideal.ofBits, Ideal.ieee]

theorem bits_one : Ideal.ofBits .f32 0x3F800000#32 = (1 : EReal) := by
  simp [Ideal.ofBits, Ideal.ieee]
  norm_num
  rw [← EReal.coe_mul]
  norm_num

theorem bits_two : Ideal.ofBits .f32 0x40000000#32 = ((2 : ℝ) : EReal) := by
  have := pw_mid 128 (by omega) (by omega)
  simpa [pw] using this

theorem bits_off : Ideal.ofBits .f32 0xC2FA0000#32 = ((-125 : ℝ) : EReal) := by
  simp [Ideal.ofBits, Ideal.ieee]
  norm_num
  rw [← EReal.coe_mul]
  norm_num

theorem bits_big : Ideal.ofBits .f32 0x7F7F0000#32 ≤ (((2 : ℝ) ^ (128 : ℤ) : ℝ) : EReal) := by
  simp [Ideal.ofBits, Ideal.ieee]
  norm_num
  rw [← EReal.coe_pow, ← EReal.coe_pow, ← EReal.coe_mul, EReal.coe_le_coe_iff]
  norm_num

theorem bits_c : ∃ c : ℝ, Ideal.ofBits .f32 0x3B124925#32 = (c : EReal) ∧ 0 < c ∧ c < (2 : ℝ) ^ (-3 : ℤ) := by
  refine ⟨_, by simp [Ideal.ofBits, Ideal.ieee]; rfl, ?_, ?_⟩ <;> norm_num

/-- The reference's powers of two. -/
theorem power_at (k : Fin 252) :
    Ideal.pow (Ideal.ofBits .f32 0x40000000#32) (Ideal.ofBits .f32 0xC2FA0000#32 + (((BitVec.ofNat 32 k.val).toInt : ℝ) : EReal))
      = (((2 : ℝ) ^ ((k.val : ℤ) - 125) : ℝ) : EReal) := by
  have hk : (BitVec.ofNat 32 k.val).toInt = k.val := by
    rw [BitVec.toInt_ofNat']; exact Int.bmod_eq_of_le (by omega) (by omega)
  rw [bits_two, bits_off, hk, ← EReal.coe_add, Ideal.pow_coe_coe]
  congr 1
  show (2 : ℝ) ^ ((-125 : ℝ) + ((k.val : ℤ) : ℝ)) = _
  rw [← Real.rpow_intCast]
  congr 1; push_cast; ring

/-- The least power of two above a number of the binade of field `n`. -/
theorem least_power (v : EReal) (n : ℕ) (h1 : 1 ≤ n) (h2 : n ≤ 252)
    (lo : (((2 : ℝ) ^ ((n : ℤ) - 127) : ℝ) : EReal) ≤ v) (hi : v < (((2 : ℝ) ^ ((n : ℤ) - 126) : ℝ) : EReal)) :
    (Finset.univ.inf fun k : Fin 252 => if v < (((2 : ℝ) ^ ((k.val : ℤ) - 125) : ℝ) : EReal) then (((2 : ℝ) ^ ((k.val : ℤ) - 125) : ℝ) : EReal) else ⊤)
      = (((2 : ℝ) ^ ((n : ℤ) - 126) : ℝ) : EReal) := by
  apply le_antisymm
  · refine (Finset.inf_le (Finset.mem_univ (⟨n - 1, by omega⟩ : Fin 252))).trans (le_of_eq ?_)
    have e : (((n - 1 : ℕ) : ℤ) - 125) = (n : ℤ) - 126 := by omega
    simp only [e, if_pos hi]
  · refine Finset.le_inf fun k _ => ?_
    split
    · rename_i h
      have hlt := lt_of_le_of_lt lo h
      rw [EReal.coe_lt_coe_iff, zpow_lt_zpow_iff_right₀ (by norm_num : (1 : ℝ) < 2)] at hlt
      rw [EReal.coe_le_coe_iff]
      exact zpow_le_zpow_right₀ (by norm_num) (by omega)
    · exact le_top

/-- The reference's scale is the kernel's, and its inverse is the kernel's. -/
theorem scale_eq (v : EReal) (h0 : 0 ≤ v) (hb : v = ⊤ ∨ v < (((2 : ℝ) ^ (126 : ℤ) : ℝ) : EReal)) :
    (if v < (((2 : ℝ) ^ (-126 : ℤ) : ℝ) : EReal) ∨ v = ⊤ then (1 : EReal)
      else Finset.univ.inf fun k : Fin 252 => if v < (((2 : ℝ) ^ ((k.val : ℤ) - 125) : ℝ) : EReal) then (((2 : ℝ) ^ ((k.val : ℤ) - 125) : ℝ) : EReal) else ⊤)
      = scaleF (F := Ideal) v
    ∧ ∀ x : EReal, Ideal.div x (scaleF (F := Ideal) v) = x * invF (F := Ideal) v := by
  have one : ∀ x : EReal, Ideal.div x 1 = x * 1 := fun x => by simp [Ideal.div]
  by_cases ht : v = ⊤
  · subst ht
    rw [if_pos (.inr rfl), scale_top.1, scale_top.2]
    exact ⟨rfl, one⟩
  by_cases hs : v < (((2 : ℝ) ^ (-126 : ℤ) : ℝ) : EReal)
  · rw [if_pos (.inl hs), (scale_small v h0 hs).1, (scale_small v h0 hs).2]
    exact ⟨rfl, one⟩
  have hb' := hb.resolve_left ht
  rw [if_neg (by tauto)]
  lift v to ℝ using ⟨ht, fun h => by rw [h] at h0; exact absurd h0 (by simp)⟩ with r
  obtain ⟨n, h1, h2, lo, hi⟩ := binade r (by rw [not_lt, EReal.coe_le_coe_iff] at hs; exact hs) (by rw [EReal.coe_lt_coe_iff] at hb'; exact hb')
  have e := scale_mid (r : EReal) n h1 h2 (EReal.coe_le_coe_iff.mpr lo) (EReal.coe_lt_coe_iff.mpr hi)
  rw [e.1, e.2]
  refine ⟨least_power _ n h1 h2 (EReal.coe_le_coe_iff.mpr lo) (EReal.coe_lt_coe_iff.mpr hi), fun x => ?_⟩
  have hne : (((2 : ℝ) ^ ((n : ℤ) - 126) : ℝ) : EReal) ≠ 0 := by
    rw [Ne, EReal.coe_eq_zero]; positivity
  rw [Ideal.div, if_neg hne, ← EReal.coe_inv, ← zpow_neg]
  congr 3; ring

/-- The argument of the scale lies in the range of the two lemmas, when every entry is at most the greatest bf16 or infinite. -/
theorem rowArg_range (f : Fin 3584 → EReal) (hf : ∀ k, eabs (f k) ≤ Ideal.ofBits .f32 0x7F7F0000#32 ∨ eabs (f k) = ⊤) :
    0 ≤ rowArg f ∧ (rowArg f = ⊤ ∨ rowArg f < (((2 : ℝ) ^ (126 : ℤ) : ℝ) : EReal)) := by
  have hp : ∀ x : EReal, 0 ≤ eabs x := fun x => by
    show 0 ≤ max x (-x)
    rcases le_total 0 x with h | h
    · exact le_max_of_le_left h
    · exact le_max_of_le_right (EReal.neg_nonneg.mpr h)
  have hs : 0 ≤ Finset.univ.sup fun k => eabs (f k) :=
    (hp (f 0)).trans (Finset.le_sup (f := fun k => eabs (f k)) (Finset.mem_univ 0))
  obtain ⟨c, hc, c0, c1⟩ := bits_c
  unfold rowArg
  rw [hc]
  refine ⟨mul_nonneg hs (EReal.coe_nonneg.mpr c0.le), ?_⟩
  by_cases h : ∃ k, eabs (f k) = ⊤
  · obtain ⟨k, hk⟩ := h
    left
    have : (Finset.univ.sup fun k => eabs (f k)) = ⊤ := top_le_iff.mp (hk ▸ Finset.le_sup (f := fun k => eabs (f k)) (Finset.mem_univ k))
    rw [this, EReal.top_mul_coe_of_pos c0]
  · right
    have hb : (Finset.univ.sup fun k => eabs (f k)) ≤ (((2 : ℝ) ^ (128 : ℤ) : ℝ) : EReal) :=
      Finset.sup_le fun k _ => ((hf k).resolve_right fun e => h ⟨k, e⟩).trans bits_big
    refine lt_of_le_of_lt (mul_le_mul_of_nonneg_right hb (EReal.coe_nonneg.mpr c0.le)) ?_
    rw [← EReal.coe_mul, EReal.coe_lt_coe_iff]
    calc (2 : ℝ) ^ (128 : ℤ) * c < (2 : ℝ) ^ (128 : ℤ) * (2 : ℝ) ^ (-3 : ℤ) := by
          exact mul_lt_mul_of_pos_left c1 (by positivity)
      _ < (2 : ℝ) ^ (126 : ℤ) := by
          rw [← zpow_add₀ (by norm_num)]
          exact zpow_lt_zpow_right₀ (by norm_num) (by norm_num)

end Cert.ReferenceIdeal.Hand
-- ==== Proof.RScale.lean ====
/- The scales and the codes of the reference, entry by entry. -/
module
public import proofs.«01_k».proof.Proof.RQuant
@[expose] public section
set_option maxRecDepth 16384
noncomputable section
namespace Cert.ReferenceIdeal.Hand
open Cert.ReferenceIdeal Cert.ReferenceIdeal.Gen
open Cert.Quant Idealize.ShloMosaic Idealize.ShloMosaic.Tactic
open Cert.KernelIdeal.Hand (rowArg eabs codeOf invE scaleE fold_max_eq_sup)

attribute [local irreducible] Host.reduce

theorem select_ofBool (p : Prop) [Decidable p] {α : Type} (a b : α) : Scalar.select (BitVec.ofBool (decide p)) a b = if p then a else b := by
  by_cases h : p <;> simp [Scalar.select, h]

theorem mulf_apply' {s : Shape} (x y : FVec Ideal s .f32) (i : s.Idx) : mulf x y i = x i * y i := rfl

theorem xR_at (x : Vec Ideal S2x512x3584 .bf16) (r : Fin 1024) (k : Fin 3584) : xR x (ix2 r k) = Spec.row x r k := by
  refine shapeCast_apply (s := S2x512x3584) x _ _ _ ?_
  rw [Shape.rowMajor_val_three, Shape.rowMajor_val_two]
  show (r.val / 512 * 512 + r.val % 512) * 3584 + k.val = r.val * 3584 + k.val
  omega

/-- A column of one number per row, read off the vector it is spread from. -/
theorem col_at (x : FVec Ideal S1024 .f32) (r : Fin 1024) : broadcastInDim S1024x1 ![0] bcast_S1024_S1024x1_0 x (ix2 r 0) = x (ix1 r) :=
  broadcastInDim_apply _ _ _ _ _ fun a => by fin_cases a; rfl

theorem red_max : S1024x3584.Reduces [1] S1024 := by decide
theorem red_min : S1024x252.Reduces [1] S1024 := by decide
theorem lift_max (r : Fin 1024) (l : Fin 3584) : red_max.lift (ix1 r) l = ix2 r l := by
  funext x; fin_cases x <;> rfl
theorem lift_min (r : Fin 1024) (l : Fin 252) : red_min.lift (ix1 r) l = ix2 r l := by
  funext x; fin_cases x <;> rfl

/-- The greatest entry of a row. -/
theorem max_at (x : FVec Ideal S1024x3584 .f32) (r : Fin 1024) :
    Host.reduce (FloatOps.maximumf (F := Ideal) (φ := .f32)) x (constant (F := Ideal) S_ .f32 0xFF800000#32) reducesTo_S1024x3584_S1024_d1 h_S_ (ix1 r)
      = Finset.univ.sup fun k : Fin 3584 => x (ix2 r k) := by
  rw [Host.reduce_eq_fold_single (a := 1) _ _ _ _ red_max]
  have e : x ∘ red_max.lift (ix1 r) = fun k : Fin 3584 => x (ix2 r k) := funext fun l => congrArg x (lift_max r l)
  rw [e]
  exact fold_max_eq_sup _

/-- The least entry of a row. -/
theorem min_at (x : FVec Ideal S1024x252 .f32) (r : Fin 1024) :
    Host.reduce (FloatOps.minimumf (F := Ideal) (φ := .f32)) x (constant (F := Ideal) S_ .f32 0x7F800000#32) reducesTo_S1024x252_S1024_d1 h_S_ (ix1 r)
      = Finset.univ.inf fun k : Fin 252 => x (ix2 r k) := by
  rw [Host.reduce_eq_fold_single (a := 1) _ _ _ _ red_min]
  have e : x ∘ red_min.lift (ix1 r) = fun k : Fin 252 => x (ix2 r k) := funext fun l => congrArg x (lift_min r l)
  have e0 : constant (F := Ideal) S_ .f32 0x7F800000#32 (Shape.Idx.first h_S_) = (⊤ : EReal) := bits_inf
  rw [e, e0]
  rfl

theorem argR_at (x : Vec Ideal S2x512x3584 .bf16) (r : Fin 1024) : argR x (ix2 r 0) = rowArg (Spec.row x r) := by
  unfold argR rowArg
  rw [mulf_apply', col_at, max_at]
  refine congrArg (· * Ideal.ofBits .f32 0x3B124925#32) ?_
  refine Finset.sup_congr rfl fun l _ => ?_
  exact congrArg eabs (xR_at x r l)

theorem powR_at (k : Fin 252) : powR (ix2 0 k) = (((2 : ℝ) ^ ((k.val : ℤ) - 125) : ℝ) : EReal) := by
  unfold powR
  refine (broadcastInDim_apply _ _ _ _ (ix1 k) fun a => by fin_cases a; rfl).trans ?_
  exact power_at k

theorem aboveR_at (v : FVec Ideal S1024x1 .f32) (r : Fin 1024) (k : Fin 252) :
    aboveR v (ix2 r k) = if v (ix2 r 0) < (((2 : ℝ) ^ ((k.val : ℤ) - 125) : ℝ) : EReal) then (((2 : ℝ) ^ ((k.val : ℤ) - 125) : ℝ) : EReal) else ⊤ := by
  have e1 : broadcastInDim S1024x252 ![0, 1] bcast_S1024x1_S1024x252_0_1 v (ix2 r k) = v (ix2 r 0) :=
    broadcastInDim_apply _ _ _ _ _ fun a => by fin_cases a <;> rfl
  have e2 : broadcastInDim S1024x252 ![0, 1] bcast_S1x252_S1024x252_0_1 powR (ix2 r k) = powR (ix2 0 k) :=
    broadcastInDim_apply _ _ _ _ _ fun a => by fin_cases a <;> rfl
  show Scalar.select (BitVec.ofBool (decide (_ < _))) _ (Ideal.ofBits .f32 0x7F800000#32) = _
  rw [e1, e2, powR_at, bits_inf, select_ofBool]

theorem scaleR_at (v : FVec Ideal S1024x1 .f32) (r : Fin 1024) :
    scaleR v (ix2 r 0) = (if v (ix2 r 0) < (((2 : ℝ) ^ (-126 : ℤ) : ℝ) : EReal) ∨ v (ix2 r 0) = ⊤ then (1 : EReal)
      else Finset.univ.inf fun k : Fin 252 => if v (ix2 r 0) < (((2 : ℝ) ^ ((k.val : ℤ) - 125) : ℝ) : EReal) then (((2 : ℝ) ^ ((k.val : ℤ) - 125) : ℝ) : EReal) else ⊤) := by
  have hm : broadcastInDim S1024x1 ![0] bcast_S1024_S1024x1_0
      (Host.reduce (FloatOps.minimumf (F := Ideal) (φ := .f32)) (aboveR v) (constant (F := Ideal) S_ .f32 0x7F800000#32) reducesTo_S1024x252_S1024_d1 h_S_ : FVec Ideal S1024 .f32) (ix2 r 0)
      = Finset.univ.inf fun k : Fin 252 => if v (ix2 r 0) < (((2 : ℝ) ^ ((k.val : ℤ) - 125) : ℝ) : EReal) then (((2 : ℝ) ^ ((k.val : ℤ) - 125) : ℝ) : EReal) else ⊤ := by
    rw [col_at, min_at]
    exact Finset.inf_congr rfl fun l _ => aboveR_at v r l
  show Scalar.select (IntOp.ori (BitVec.ofBool (decide (v (ix2 r 0) < Ideal.ofBits .f32 0x00800000#32))) (BitVec.ofBool (decide (v (ix2 r 0) = Ideal.ofBits .f32 0x7F800000#32))))
    (Ideal.ofBits .f32 0x3F800000#32) _ = _
  rw [hm, bits_norm, bits_inf, bits_one, ← select_ofBool]
  congr 1
  by_cases h1 : v (ix2 r 0) < (((2 : ℝ) ^ (-126 : ℤ) : ℝ) : EReal) <;> by_cases h2 : v (ix2 r 0) = ⊤ <;> simp only [h1, h2, decide_true, decide_false, true_or, or_true, or_self] <;> rfl

theorem scaledR_at (x : FVec Ideal S1024x3584 .f32) (s : FVec Ideal S1024x1 .f32) (r : Fin 1024) (k : Fin 3584) :
    scaledR x s (ix2 r k) = min (Ideal.ofBits .f32 0x43E00000#32) (max (Ideal.ofBits .f32 0xC3E00000#32) (Ideal.div (x (ix2 r k)) (s (ix2 r 0)))) := by
  have e1 : broadcastInDim S1024x3584 ![0, 1] bcast_S1024x1_S1024x3584_0_1 s (ix2 r k) = s (ix2 r 0) :=
    broadcastInDim_apply _ _ _ _ _ fun a => by fin_cases a <;> rfl
  show min (Ideal.ofBits .f32 0x43E00000#32) (max (Ideal.ofBits .f32 0xC3E00000#32) (Ideal.div (x (ix2 r k)) (broadcastInDim S1024x3584 ![0, 1] bcast_S1024x1_S1024x3584_0_1 s (ix2 r k)))) = _
  rw [e1]

variable (x : Vec Ideal S2x512x3584 .bf16)
    (hx : ∀ i, eabs (x i) ≤ Ideal.ofBits .f32 0x7F7F0000#32 ∨ eabs (x i) = ⊤)
include hx

/-- The reference's scale of a row. -/
theorem refScale_at (r : Fin 1024) : scaleR (argR x) (ix2 r 0) = Spec.scale x r := by
  obtain ⟨h0, hb⟩ := rowArg_range (Spec.row x r) fun k => hx _
  rw [scaleR_at, argR_at]
  exact (scale_eq _ h0 hb).1

/-- The reference's codes. -/
theorem refCode_at (r : Fin 1024) (k : Fin 3584) : scaledR (xR x) (scaleR (argR x)) (ix2 r k) = Spec.code x r k := by
  obtain ⟨h0, hb⟩ := rowArg_range (Spec.row x r) fun k => hx _
  rw [scaledR_at, refScale_at x hx, xR_at]
  exact congrArg (fun z => min (Ideal.ofBits .f32 0x43E00000#32) (max (Ideal.ofBits .f32 0xC3E00000#32) z)) ((scale_eq _ h0 hb).2 _)

end Cert.ReferenceIdeal.Hand
-- ==== Proof.RPos.lean ====
/- The positions of the kept weights in the reference, and how its body spreads them. -/
module
public import proofs.«01_k».proof.Proof.RScale
@[expose] public section
set_option maxRecDepth 16384
noncomputable section
namespace Cert.ReferenceIdeal.Hand
open Cert.ReferenceIdeal Cert.ReferenceIdeal.Gen Cert.Dense
open Idealize.ShloMosaic Idealize.ShloMosaic.TcCoe Idealize.ShloMosaic.Tactic

/-- Two bits of a word, taken by a signed shift. -/
theorem shifted_toNat (w a : BitVec 32) (b : ℕ) (h : b ≤ 30) (ha : a.toNat = b) :
    (IntOp.andi (IntOp.shrsi .host w a) 3#32).toNat = posAt w b := by
  have hs : IntOp.shrsi .host w a = w.sshiftRight b := by
    unfold IntOp.shrsi
    rw [if_pos (by omega), BitVec.sshiftRight', ha]
  have e : (w.sshiftRight b) &&& 3#32 = (w >>> b) &&& 3#32 := by
    refine BitVec.eq_of_getLsbD_eq fun i hi => ?_
    rw [BitVec.getLsbD_and, BitVec.getLsbD_and]
    by_cases h2 : i < 2
    · rw [BitVec.getLsbD_sshiftRight, BitVec.getLsbD_ushiftRight]
      simp only [show b + i < 32 by omega, show ¬ 32 ≤ i by omega, decide_false, Bool.not_false, Bool.true_and, if_true]
    · have h3 : (3#32).getLsbD i = false := by
        rw [BitVec.getLsbD, BitVec.toNat_ofNat]
        exact Nat.testBit_lt_two_pow (lt_of_lt_of_le (by norm_num : 3 % 2 ^ 32 < 2 ^ 2) (Nat.pow_le_pow_right (by norm_num) (by omega)))
      rw [h3, Bool.and_false, Bool.and_false]
  rw [hs]
  show ((w.sshiftRight b) &&& 3#32).toNat = _
  rw [e, BitVec.toNat_and, BitVec.toNat_ushiftRight, Nat.shiftRight_eq_div_pow]
  exact Nat.and_two_pow_sub_one_eq_mod _ 2

theorem posR_at (w : IVec S112x18944 32) (sh : IVec S1x8x1 32) (W : Fin 112) (j : Fin 8) (n : Fin 18944) (b : ℕ) (h : b ≤ 30)
    (hs : (sh (ix3 0 j 0)).toNat = b) : (posR w sh (ix3 W j n)).toNat = posAt (w (ix2 W n)) b := by
  have e1 : broadcastInDim S112x8x18944 ![0, 1, 2] bcast_S112x1x18944_S112x8x18944_0_1_2 (broadcastInDim S112x1x18944 ![0, 2] bcast_S112x18944_S112x1x18944_0_2 w) (ix3 W j n) = w (ix2 W n) :=
    (broadcastInDim_apply _ _ _ _ (ix3 W 0 n) fun a => by fin_cases a <;> rfl).trans
      (broadcastInDim_apply _ _ _ _ (ix2 W n) fun a => by fin_cases a <;> rfl)
  have e2 : broadcastInDim S112x8x18944 ![0, 1, 2] bcast_S1x8x1_S112x8x18944_0_1_2 sh (ix3 W j n) = sh (ix3 0 j 0) :=
    broadcastInDim_apply _ _ _ _ _ fun a => by fin_cases a <;> rfl
  show (IntOp.andi (IntOp.shrsi .host (broadcastInDim S112x8x18944 ![0, 1, 2] bcast_S112x1x18944_S112x8x18944_0_1_2 (broadcastInDim S112x1x18944 ![0, 2] bcast_S112x18944_S112x1x18944_0_2 w) (ix3 W j n))
    (broadcastInDim S112x8x18944 ![0, 1, 2] bcast_S1x8x1_S112x8x18944_0_1_2 sh (ix3 W j n))) 3#32).toNat = _
  rw [e1, e2]
  exact shifted_toNat _ _ _ h hs

/-- The second positions' shifts. -/
def shR2 : IVec S1x8x1 32 := addi shR (broadcastInDim S1x8x1 ![] bcast_S_S1x8x1 (constantI S_ 32 2#32))

theorem shR_at (j : Fin 8) : shR (ix3 0 j 0) = 4#32 * BitVec.ofNat 32 j.val := by
  have e : broadcastInDim S1x8x1 ![1] bcast_S8_S1x8x1_1 (iotaInDim S8 32 0) (ix3 0 j 0) = BitVec.ofNat 32 j.val :=
    broadcastInDim_apply _ _ _ _ (ix1 j) fun a => by fin_cases a; rfl
  exact congrArg (4#32 * ·) e

theorem shR_toNat (j : Fin 8) : (shR (ix3 0 j 0)).toNat = 4 * j.val := by
  rw [shR_at, BitVec.toNat_mul, BitVec.toNat_ofNat, BitVec.toNat_ofNat]; omega

theorem shR2_toNat (j : Fin 8) : (shR2 (ix3 0 j 0)).toNat = 4 * j.val + 2 := by
  show (shR (ix3 0 j 0) + 2#32).toNat = _
  rw [BitVec.toNat_add, shR_toNat, BitVec.toNat_ofNat]; omega

theorem pos1_at (w : IVec S112x18944 32) (W : Fin 112) (j : Fin 8) (n : Fin 18944) :
    (posR w shR (ix3 W j n)).toNat = posAt (w (ix2 W n)) (4 * j.val) := posR_at _ _ _ _ _ _ (by omega) (shR_toNat j)
theorem pos2_at (w : IVec S112x18944 32) (W : Fin 112) (j : Fin 8) (n : Fin 18944) :
    (posR w shR2 (ix3 W j n)).toNat = posAt (w (ix2 W n)) (4 * j.val + 2) := posR_at _ _ _ _ _ _ (by omega) (shR2_toNat j)

/-- Reading a number of one group of four spread over its four rows. -/
theorem spread_at {α : Type} (p : S112x8x1x18944.Idx → α) (k : Fin 3584) (n : Fin 18944) :
    broadcastTo S112x8x4x18944 p broadcasts_S112x8x1x18944_S112x8x4x18944 (ix4 ⟨k.val / 32, by omega⟩ ⟨k.val / 4 % 8, by omega⟩ ⟨k.val % 4, by omega⟩ n)
      = p (ix4 ⟨k.val / 32, by omega⟩ ⟨k.val / 4 % 8, by omega⟩ 0 n) :=
  broadcastTo_apply _ _ _ _ fun a => by fin_cases a <;> rfl

/-- Reading a position spread over the four rows of its group. -/
theorem spread_pos (p : S112x8x18944.Idx → BitVec 32) (k : Fin 3584) (n : Fin 18944) :
    broadcastTo S112x8x4x18944 (shapeCast S112x8x1x18944 p shapeCasts_S112x8x18944_S112x8x1x18944) broadcasts_S112x8x1x18944_S112x8x4x18944
        (ix4 ⟨k.val / 32, by omega⟩ ⟨k.val / 4 % 8, by omega⟩ ⟨k.val % 4, by omega⟩ n)
      = p (ix3 ⟨k.val / 32, by omega⟩ ⟨k.val / 4 % 8, by omega⟩ n) := by
  rw [spread_at]
  refine shapeCast_apply _ _ _ _ ?_
  show (S112x8x18944.rowMajor _).val = _
  rw [Shape.rowMajor_val_three, Shape.rowMajor_val_four]
  show (k.val / 32 * 8 + k.val / 4 % 8) * 18944 + n.val = ((k.val / 32 * 8 + k.val / 4 % 8) * 1 + 0) * 18944 + n.val
  omega

/-- The kept bytes: the first of each group. -/
theorem kept1 (v : FVec Ideal S1792x18944 .fp8e4m3) (k : Fin 3584) (n : Fin 18944) :
    extractStridedSlice S112x8x1x18944 ![0, 0, 0, 0] (shapeCast S112x8x2x18944 v shapeCasts_S1792x18944_S112x8x2x18944) slices_S112x8x2x18944_o0_0_0_0_S112x8x1x18944
      (ix4 ⟨k.val / 32, by omega⟩ ⟨k.val / 4 % 8, by omega⟩ 0 n) = v (ix2 ⟨2 * (k.val / 4), by omega⟩ n) := by
  refine (extractStridedSlice_apply _ _ _ _ (ix4 ⟨k.val / 32, by omega⟩ ⟨k.val / 4 % 8, by omega⟩ 0 n) fun a => ?_).trans ?_
  · fin_cases a
    · exact (Nat.zero_add _).symm
    · exact (Nat.zero_add _).symm
    · rfl
    · exact (Nat.zero_add _).symm
  · refine shapeCast_apply _ _ _ _ ?_
    show (S1792x18944.rowMajor _).val = _
    rw [Shape.rowMajor_val_two, Shape.rowMajor_val_four]
    show 2 * (k.val / 4) * 18944 + n.val = ((k.val / 32 * 8 + k.val / 4 % 8) * 2 + 0) * 18944 + n.val
    omega

/-- The kept bytes: the second of each group. -/
theorem kept2 (v : FVec Ideal S1792x18944 .fp8e4m3) (k : Fin 3584) (n : Fin 18944) :
    extractStridedSlice S112x8x1x18944 ![0, 0, 1, 0] (shapeCast S112x8x2x18944 v shapeCasts_S1792x18944_S112x8x2x18944) slices_S112x8x2x18944_o0_0_1_0_S112x8x1x18944
      (ix4 ⟨k.val / 32, by omega⟩ ⟨k.val / 4 % 8, by omega⟩ 0 n) = v (ix2 ⟨2 * (k.val / 4) + 1, by omega⟩ n) := by
  refine (extractStridedSlice_apply _ _ _ _ (ix4 ⟨k.val / 32, by omega⟩ ⟨k.val / 4 % 8, by omega⟩ 1 n) fun a => ?_).trans ?_
  · fin_cases a
    · exact (Nat.zero_add _).symm
    · exact (Nat.zero_add _).symm
    · rfl
    · exact (Nat.zero_add _).symm
  · refine shapeCast_apply _ _ _ _ ?_
    show (S1792x18944.rowMajor _).val = _
    rw [Shape.rowMajor_val_two, Shape.rowMajor_val_four]
    show (2 * (k.val / 4) + 1) * 18944 + n.val = ((k.val / 32 * 8 + k.val / 4 % 8) * 2 + 1) * 18944 + n.val
    omega

/-- The rows' places in their groups. -/
theorem place_at (k : Fin 3584) (n : Fin 18944) :
    broadcastTo S112x8x4x18944 (iota .tc S1x1x4x1 32 [2] iota_S1x1x4x1_d2_w32) broadcasts_S1x1x4x1_S112x8x4x18944
        (ix4 ⟨k.val / 32, by omega⟩ ⟨k.val / 4 % 8, by omega⟩ ⟨k.val % 4, by omega⟩ n) = BitVec.ofNat 32 (k.val % 4) := by
  refine (broadcastTo_apply _ _ _ (ix4 0 0 ⟨k.val % 4, by omega⟩ 0) fun a => by fin_cases a <;> rfl).trans ?_
  show BitVec.ofNat 32 (0 * 4 + k.val % 4) = _
  rw [Nat.zero_mul, Nat.zero_add]

theorem cmp_place (p : BitVec 32) (b : ℕ) (hb : b < 4) : IntOp.cmpi .eq p (BitVec.ofNat 32 b) = BitVec.ofBool (decide (p.toNat = b)) := by
  show BitVec.ofBool (p == BitVec.ofNat 32 b) = _
  congr 1
  rw [Bool.eq_iff_iff, beq_iff_eq, decide_eq_true_iff]
  constructor
  · rintro rfl; rw [BitVec.toNat_ofNat]; omega
  · intro h; apply BitVec.eq_of_toNat_eq; rw [BitVec.toNat_ofNat, h]; omega

end Cert.ReferenceIdeal.Hand
-- ==== Proof.RY.lean ====
/- The products of the reference, entry by entry. -/
module
public import proofs.«01_k».proof.Proof.RPos
public import Idealize.ShloMosaic.Lib.MatmulPlain
@[expose] public section
set_option maxRecDepth 16384
noncomputable section
namespace Cert.ReferenceIdeal.Hand
open Cert.ReferenceIdeal Cert.ReferenceIdeal.Gen Cert.Dense
open Idealize.ShloMosaic Idealize.ShloMosaic.TcCoe Idealize.ShloMosaic.Tactic

/-- One entry of the dense weights: a kept number at its position, zero elsewhere. -/
theorem dense_at (v : FVec Ideal S1792x18944 .fp8e4m3) (p q : S112x8x18944.Idx → BitVec 32) (k : Fin 3584) (n : Fin 18944) :
    (shapeCast S3584x18944 (select (cmpi .eq (broadcastTo S112x8x4x18944 (shapeCast S112x8x1x18944 p shapeCasts_S112x8x18944_S112x8x1x18944) broadcasts_S112x8x1x18944_S112x8x4x18944)
          (broadcastTo S112x8x4x18944 (iota .tc S1x1x4x1 32 [2] iota_S1x1x4x1_d2_w32) broadcasts_S1x1x4x1_S112x8x4x18944))
        (broadcastTo S112x8x4x18944 (extractStridedSlice S112x8x1x18944 ![0, 0, 0, 0] (shapeCast S112x8x2x18944 v shapeCasts_S1792x18944_S112x8x2x18944) slices_S112x8x2x18944_o0_0_0_0_S112x8x1x18944) broadcasts_S112x8x1x18944_S112x8x4x18944)
        (select (cmpi .eq (broadcastTo S112x8x4x18944 (shapeCast S112x8x1x18944 q shapeCasts_S112x8x18944_S112x8x1x18944) broadcasts_S112x8x1x18944_S112x8x4x18944)
          (broadcastTo S112x8x4x18944 (iota .tc S1x1x4x1 32 [2] iota_S1x1x4x1_d2_w32) broadcasts_S1x1x4x1_S112x8x4x18944))
        (broadcastTo S112x8x4x18944 (extractStridedSlice S112x8x1x18944 ![0, 0, 1, 0] (shapeCast S112x8x2x18944 v shapeCasts_S1792x18944_S112x8x2x18944) slices_S112x8x2x18944_o0_0_1_0_S112x8x1x18944) broadcasts_S112x8x1x18944_S112x8x4x18944)
        (broadcast S112x8x4x18944 (Scalar.ofBits (F := Ideal) .fp8e4m3 0x00#8)) : FVec Ideal S112x8x4x18944 .fp8e4m3) : FVec Ideal S112x8x4x18944 .fp8e4m3) shapeCasts_S112x8x4x18944_S3584x18944 : FVec Ideal S3584x18944 .fp8e4m3) (ix2 k n)
      = if (p (ix3 ⟨k.val / 32, by omega⟩ ⟨k.val / 4 % 8, by omega⟩ n)).toNat = k.val % 4 then v (ix2 ⟨2 * (k.val / 4), by omega⟩ n)
        else if (q (ix3 ⟨k.val / 32, by omega⟩ ⟨k.val / 4 % 8, by omega⟩ n)).toNat = k.val % 4 then v (ix2 ⟨2 * (k.val / 4) + 1, by omega⟩ n)
        else Ideal.ofBits .fp8e4m3 0#8 := by
  refine (shapeCast_apply _ _ _ (ix4 ⟨k.val / 32, by omega⟩ ⟨k.val / 4 % 8, by omega⟩ ⟨k.val % 4, by omega⟩ n) ?_).trans ?_
  · show (S112x8x4x18944.rowMajor _).val = _
    rw [Shape.rowMajor_val_two, Shape.rowMajor_val_four]
    show ((k.val / 32 * 8 + k.val / 4 % 8) * 4 + k.val % 4) * 18944 + n.val = k.val * 18944 + n.val
    omega
  · show Scalar.select (IntOp.cmpi .eq _ _) _ (Scalar.select (IntOp.cmpi .eq _ _) _ (Ideal.ofBits .fp8e4m3 0#8)) = _
    rw [spread_pos, spread_pos, place_at, spread_at, spread_at, kept1, kept2, cmp_place _ _ (Nat.mod_lt _ (by norm_num)),
      cmp_place _ _ (Nat.mod_lt _ (by norm_num)), select_ofBool, select_ofBool]

/-- The result of the body at an index. -/
theorem pay3_at (C : Vec Ideal S1024x3584 .f32) (v : Vec Ideal S1792x18944 .i8) (p q : Vec Ideal S112x8x18944 .i32) (sc : Vec Ideal S1024x1 .f32)
    (ws : Vec Ideal S1x18944 .f32) (r : Fin 1024) (n : Fin 18944) :
    k0_pay3 C v p q sc ws (ix2 r n) = (∑ k : Fin 3584, C (ix2 r k) *
      (if (p (ix3 ⟨k.val / 32, by omega⟩ ⟨k.val / 4 % 8, by omega⟩ n)).toNat = k.val % 4 then Ideal.ofBits .fp8e4m3 (v (ix2 ⟨2 * (k.val / 4), by omega⟩ n))
        else if (q (ix3 ⟨k.val / 32, by omega⟩ ⟨k.val / 4 % 8, by omega⟩ n)).toNat = k.val % 4 then Ideal.ofBits .fp8e4m3 (v (ix2 ⟨2 * (k.val / 4) + 1, by omega⟩ n))
        else Ideal.ofBits .fp8e4m3 0#8)) * sc (ix2 r 0) * ws (ix2 0 n) := by
  have e1 : broadcastTo S1024x18944 sc broadcasts_S1024x1_S1024x18944 (ix2 r n) = sc (ix2 r 0) :=
    broadcastTo_apply _ _ _ _ fun a => by fin_cases a <;> rfl
  have e2 : broadcastTo S1024x18944 ws broadcasts_S1x18944_S1024x18944 (ix2 r n) = ws (ix2 0 n) :=
    broadcastTo_apply _ _ _ _ fun a => by fin_cases a <;> rfl
  unfold k0_pay3 k0_pay2
  simp only [shapeCast_self]
  rw [truncf_apply, mulf_apply', mulf_apply', e1, e2]
  refine congrArg (· * _) (congrArg (· * _) ?_)
  refine (Ideal.matmul_plain_apply (M := 1024) (K := 3584) (N := 18944) none _ _ _ r n).trans ?_
  refine (congrArg (· + _) (show (constant (F := Ideal) S1024x18944 .f32 0x00000000#32) (ix2 r n) = (0 : EReal) from Ideal.ofBits_zero_f32)).trans ?_
  rw [zero_add]
  exact Finset.sum_congr rfl fun k _ => congrArg (C (ix2 r k) * ·) (dense_at _ p q k n)

end Cert.ReferenceIdeal.Hand
-- ==== Proof.RFinal.lean ====
/- The arrays that the reference leaves, as the functions of the specification. -/
module
public import proofs.«01_k».proof.Proof.RY
@[expose] public section
set_option maxRecDepth 16384
noncomputable section
namespace Cert.ReferenceIdeal.Hand
open Cert.ReferenceIdeal Cert.ReferenceIdeal.Gen Cert.Dense
open Idealize.ShloMosaic Idealize.ShloMosaic.TcCoe Idealize.ShloMosaic.Tactic
open Cert.KernelIdeal.Hand (eabs)

attribute [local irreducible] StableHlo.after Host.reduce scaleR argR scaledR xR posR

theorem idx0 (y : S1024x3584.Idx) : r0_0.idx y = y := funext fun a => Fin.ext (by
  match a with
  | ⟨0, _⟩ => show 0 + 1 * (y 0).val = (y 0).val; omega
  | ⟨1, _⟩ => show 0 + 1 * (y 1).val = (y 1).val; omega)
theorem idx1 (y : S1792x18944.Idx) : r0_1.idx y = y := funext fun a => Fin.ext (by
  match a with
  | ⟨0, _⟩ => show 0 + 1 * (y 0).val = (y 0).val; omega
  | ⟨1, _⟩ => show 0 + 1 * (y 1).val = (y 1).val; omega)
theorem idx2 (y : S112x8x18944.Idx) : r0_2.idx y = y := funext fun a => Fin.ext (by
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega)
theorem idx3 (y : S1024x1.Idx) : r0_3.idx y = y := funext fun a => Fin.ext (by
  match a with
  | ⟨0, _⟩ => show 0 + 1 * (y 0).val = (y 0).val; omega
  | ⟨1, _⟩ => show 0 + 1 * (y 1).val = (y 1).val; omega)
theorem idx4 (y : S1x18944.Idx) : r0_4.idx y = y := funext fun a => Fin.ext (by
  match a with
  | ⟨0, _⟩ => show 0 + 1 * (y 0).val = (y 0).val; omega
  | ⟨1, _⟩ => show 0 + 1 * (y 1).val = (y 1).val; omega)
theorem idx5 (y : S1024x18944.Idx) : r0_5.idx y = y := funext fun a => Fin.ext (by
  match a with
  | ⟨0, _⟩ => show 0 + 1 * (y 0).val = (y 0).val; omega
  | ⟨1, _⟩ => show 0 + 1 * (y 1).val = (y 1).val; omega)

section Out
variable (x0 : Vec Ideal S1024x3584 .f32) (x1 : Vec Ideal S1024x1 .f32) (x2 : Vec Ideal S1792x18944 .i8) (x3 x4 : Vec Ideal S112x8x18944 .i32) (x5 : Vec Ideal S1x18944 .f32)

theorem ld0 : View.ld x0 r0_0 = x0 := funext fun y => congrArg x0 (idx0 y)
theorem ld1 : View.ld x2 r0_1 = x2 := funext fun y => congrArg x2 (idx1 y)
theorem ld2 : View.ld x3 r0_2 = x3 := funext fun y => congrArg x3 (idx2 y)
theorem ld3 : View.ld x1 r0_3 = x1 := funext fun y => congrArg x1 (idx3 y)
theorem ld4 : View.ld x5 r0_4 = x5 := funext fun y => congrArg x5 (idx4 y)

theorem out6_eq (y : S1024x18944.Idx) : out0_6 x0 x1 x2 x3 x4 x5 y = k0_pay3 x0 x2 x3 x4 x1 x5 y := by
  unfold out0_6
  rw [ld0, ld1, ld2, ld2, ld3, ld4]
  refine View.canon_apply_of_pieces (Val := Elt Ideal) (k0_pay3 x0 x2 x3 x4 x1 x5) _ ?_ y (cover0_6 _ y)
  intro pc hpc
  rcases List.mem_cons.mp hpc with rfl | hpc
  · exact fun x => congrArg (k0_pay3 x0 x2 x3 x4 x1 x5) (idx5 x).symm
  nomatch hpc

theorem out7_eq (y : S1024x3584.Idx) : out0_7 x0 x1 x2 x3 x4 x5 y = x0 y := by
  unfold out0_7
  rw [ld0]
  refine View.canon_apply_of_pieces (Val := Elt Ideal) (k0_pay2 x0) _ ?_ y (cover0_7 _ y) |>.trans ?_
  · intro pc hpc
    rcases List.mem_cons.mp hpc with rfl | hpc
    · exact fun x => congrArg (k0_pay2 x0) (idx0 x).symm
    nomatch hpc
  · exact congrFun (shapeCast_self x0 _) y

theorem out8_eq (y : S1024x1.Idx) : out0_8 x0 x1 x2 x3 x4 x5 y = x1 y := by
  unfold out0_8
  rw [ld3]
  refine View.canon_apply_of_pieces (Val := Elt Ideal) (k0_pay1 x1) _ ?_ y (cover0_8 _ y) |>.trans ?_
  · intro pc hpc
    rcases List.mem_cons.mp hpc with rfl | hpc
    · exact fun x => congrArg (k0_pay1 x1) (idx3 x).symm
    nomatch hpc
  · exact congrFun (shapeCast_self x1 _) y
end Out

variable (m : (ℓ : Loc nD τ sig) → Buf (Elt Ideal) ℓ)

/-- The one point of the grid. -/
abbrev t0 : Fin cfg0.N := ⟨0, by decide⟩

/-- The windows are whole arrays. -/
theorem zero_facts : win0_0.index t0 (0 : Fin 2) = 0 ∧ win0_0.index t0 (1 : Fin 2) = 0 ∧ win0_1.index t0 (0 : Fin 2) = 0 ∧ win0_1.index t0 (1 : Fin 2) = 0
    ∧ win0_2.index t0 (0 : Fin 2) = 0 ∧ win0_2.index t0 (1 : Fin 2) = 0 ∧ win0_3.index t0 (0 : Fin 3) = 0 ∧ win0_3.index t0 (1 : Fin 3) = 0 ∧ win0_3.index t0 (2 : Fin 3) = 0
    ∧ win0_4.index t0 (0 : Fin 3) = 0 ∧ win0_4.index t0 (1 : Fin 3) = 0 ∧ win0_4.index t0 (2 : Fin 3) = 0 ∧ win0_5.index t0 (0 : Fin 2) = 0 ∧ win0_5.index t0 (1 : Fin 2) = 0
    ∧ win0_6.index t0 (0 : Fin 2) = 0 ∧ win0_6.index t0 (1 : Fin 2) = 0 ∧ win0_7.index t0 (0 : Fin 2) = 0 ∧ win0_7.index t0 (1 : Fin 2) = 0
    ∧ win0_8.index t0 (0 : Fin 2) = 0 ∧ win0_8.index t0 (1 : Fin 2) = 0 := by decide +kernel

theorem emb0 (y : S1024x3584.Idx) : ((cfg0.win 0).blk t0).view.emb y = y := by
  obtain ⟨e0, e1, _, _, _, _, _, _, _, _, _, _, _, _, _, _, _, _, _, _⟩ := zero_facts
  funext a; apply Fin.ext
  match a with
  | ⟨0, _⟩ => show win0_0.index t0 (0 : Fin 2) * 1024 + 1 * (y 0).val = (y 0).val; omega
  | ⟨1, _⟩ => show win0_0.index t0 (1 : Fin 2) * 3584 + 1 * (y 1).val = (y 1).val; omega
theorem emb1 (y : S1024x1.Idx) : ((cfg0.win 1).blk t0).view.emb y = y := by
  obtain ⟨_, _, e0, e1, _, _, _, _, _, _, _, _, _, _, _, _, _, _, _, _⟩ := zero_facts
  funext a; apply Fin.ext
  match a with
  | ⟨0, _⟩ => show win0_1.index t0 (0 : Fin 2) * 1024 + 1 * (y 0).val = (y 0).val; omega
  | ⟨1, _⟩ => show win0_1.index t0 (1 : Fin 2) * 1 + 1 * (y 1).val = (y 1).val; omega
theorem emb2 (y : S1792x18944.Idx) : ((cfg0.win 2).blk t0).view.emb y = y := by
  obtain ⟨_, _, _, _, e0, e1, _, _, _, _, _, _, _, _, _, _, _, _, _, _⟩ := zero_facts
  funext a; apply Fin.ext
  match a with
  | ⟨0, _⟩ => show win0_2.index t0 (0 : Fin 2) * 1792 + 1 * (y 0).val = (y 0).val; omega
  | ⟨1, _⟩ => show win0_2.index t0 (1 : Fin 2) * 18944 + 1 * (y 1).val = (y 1).val; omega
theorem emb3 (y : S112x8x18944.Idx) : ((cfg0.win 3).blk t0).view.emb y = y := by
  obtain ⟨_, _, _, _, _, _, e0, e1, e2, _, _, _, _, _, _, _, _, _, _, _⟩ := zero_facts
  funext a; apply Fin.ext
  match a with
  | ⟨0, _⟩ => show win0_3.index t0 (0 : Fin 3) * 112 + 1 * (y 0).val = (y 0).val; omega
  | ⟨1, _⟩ => show win0_3.index t0 (1 : Fin 3) * 8 + 1 * (y 1).val = (y 1).val; omega
  | ⟨2, _⟩ => show win0_3.index t0 (2 : Fin 3) * 18944 + 1 * (y 2).val = (y 2).val; omega
theorem emb4 (y : S112x8x18944.Idx) : ((cfg0.win 4).blk t0).view.emb y = y := by
  obtain ⟨_, _, _, _, _, _, _, _, _, e0, e1, e2, _, _, _, _, _, _, _, _⟩ := zero_facts
  funext a; apply Fin.ext
  match a with
  | ⟨0, _⟩ => show win0_4.index t0 (0 : Fin 3) * 112 + 1 * (y 0).val = (y 0).val; omega
  | ⟨1, _⟩ => show win0_4.index t0 (1 : Fin 3) * 8 + 1 * (y 1).val = (y 1).val; omega
  | ⟨2, _⟩ => show win0_4.index t0 (2 : Fin 3) * 18944 + 1 * (y 2).val = (y 2).val; omega
theorem emb5 (y : S1x18944.Idx) : ((cfg0.win 5).blk t0).view.emb y = y := by
  obtain ⟨_, _, _, _, _, _, _, _, _, _, _, _, e0, e1, _, _, _, _, _, _⟩ := zero_facts
  funext a; apply Fin.ext
  match a with
  | ⟨0, _⟩ => show win0_5.index t0 (0 : Fin 2) * 1 + 1 * (y 0).val = (y 0).val; omega
  | ⟨1, _⟩ => show win0_5.index t0 (1 : Fin 2) * 18944 + 1 * (y 1).val = (y 1).val; omega
theorem emb6 (y : S1024x18944.Idx) : ((cfg0.win 6).blk t0).view.emb y = y := by
  obtain ⟨_, _, _, _, _, _, _, _, _, _, _, _, _, _, e0, e1, _, _, _, _⟩ := zero_facts
  funext a; apply Fin.ext
  match a with
  | ⟨0, _⟩ => show win0_6.index t0 (0 : Fin 2) * 1024 + 1 * (y 0).val = (y 0).val; omega
  | ⟨1, _⟩ => show win0_6.index t0 (1 : Fin 2) * 18944 + 1 * (y 1).val = (y 1).val; omega
theorem emb7 (y : S1024x3584.Idx) : ((cfg0.win 7).blk t0).view.emb y = y := by
  obtain ⟨_, _, _, _, _, _, _, _, _, _, _, _, _, _, _, _, e0, e1, _, _⟩ := zero_facts
  funext a; apply Fin.ext
  match a with
  | ⟨0, _⟩ => show win0_7.index t0 (0 : Fin 2) * 1024 + 1 * (y 0).val = (y 0).val; omega
  | ⟨1, _⟩ => show win0_7.index t0 (1 : Fin 2) * 3584 + 1 * (y 1).val = (y 1).val; omega
theorem emb8 (y : S1024x1.Idx) : ((cfg0.win 8).blk t0).view.emb y = y := by
  obtain ⟨_, _, _, _, _, _, _, _, _, _, _, _, _, _, _, _, _, _, e0, e1⟩ := zero_facts
  funext a; apply Fin.ext
  match a with
  | ⟨0, _⟩ => show win0_8.index t0 (0 : Fin 2) * 1024 + 1 * (y 0).val = (y 0).val; omega
  | ⟨1, _⟩ => show win0_8.index t0 (1 : Fin 2) * 1 + 1 * (y 1).val = (y 1).val; omega
theorem read0 (c : Dev nD) (f : Buf (Elt Ideal) ((c : Thread nD τ).loc main_v27)) : ((cfg0.win 0).blk t0).view.read (Elt Ideal) f = f :=
  funext fun y => congrArg f (emb0 y)
theorem iblk0 (c : Dev nD) : iblk m c 0 t0 = V m c main_v27 := read0 c (V m c main_v27)
theorem read1 (c : Dev nD) (f : Buf (Elt Ideal) ((c : Thread nD τ).loc main_v24)) : ((cfg0.win 1).blk t0).view.read (Elt Ideal) f = f :=
  funext fun y => congrArg f (emb1 y)
theorem iblk1 (c : Dev nD) : iblk m c 1 t0 = V m c main_v24 := read1 c (V m c main_v24)
theorem read2 (c : Dev nD) (f : Buf (Elt Ideal) ((c : Thread nD τ).loc main_arg1)) : ((cfg0.win 2).blk t0).view.read (Elt Ideal) f = f :=
  funext fun y => congrArg f (emb2 y)
theorem iblk2 (c : Dev nD) : iblk m c 2 t0 = V m c main_arg1 := read2 c (V m c main_arg1)
theorem read3 (c : Dev nD) (f : Buf (Elt Ideal) ((c : Thread nD τ).loc main_v37)) : ((cfg0.win 3).blk t0).view.read (Elt Ideal) f = f :=
  funext fun y => congrArg f (emb3 y)
theorem iblk3 (c : Dev nD) : iblk m c 3 t0 = V m c main_v37 := read3 c (V m c main_v37)
theorem read4 (c : Dev nD) (f : Buf (Elt Ideal) ((c : Thread nD τ).loc main_v46)) : ((cfg0.win 4).blk t0).view.read (Elt Ideal) f = f :=
  funext fun y => congrArg f (emb4 y)
theorem iblk4 (c : Dev nD) : iblk m c 4 t0 = V m c main_v46 := read4 c (V m c main_v46)
theorem read5 (c : Dev nD) (f : Buf (Elt Ideal) ((c : Thread nD τ).loc main_v47)) : ((cfg0.win 5).blk t0).view.read (Elt Ideal) f = f :=
  funext fun y => congrArg f (emb5 y)
theorem iblk5 (c : Dev nD) : iblk m c 5 t0 = V m c main_v47 := read5 c (V m c main_v47)
attribute [local irreducible] out0_6 out0_7 out0_8 iblk

theorem read6 (c : Dev nD) (f : Buf (Elt Ideal) ((c : Thread nD τ).loc main_v48_0)) : ((cfg0.win 6).blk t0).view.read (Elt Ideal) f = f :=
  funext fun y => congrArg f (emb6 y)
theorem final6 (c : Dev nD) (y : S1024x18944.Idx) : (dats m 0 c).arrAt 6 cfg0.N y
    = out0_6 (iblk m c 0 t0) (iblk m c 1 t0) (iblk m c 2 t0) (iblk m c 3 t0) (iblk m c 4 t0) (iblk m c 5 t0) y := by
  have a := read6 c ((dats m 0 c).arrAt 6 cfg0.N)
  have b := (Cert.ReferenceIdeal.Value.blocks6 m c t0 (flush0_6 t0)).trans (Cert.ReferenceIdeal.Value.flushed6 m c t0)
  exact congrFun (a.symm.trans b) y
theorem read7 (c : Dev nD) (f : Buf (Elt Ideal) ((c : Thread nD τ).loc main_v48_1)) : ((cfg0.win 7).blk t0).view.read (Elt Ideal) f = f :=
  funext fun y => congrArg f (emb7 y)
theorem final7 (c : Dev nD) (y : S1024x3584.Idx) : (dats m 0 c).arrAt 7 cfg0.N y
    = out0_7 (iblk m c 0 t0) (iblk m c 1 t0) (iblk m c 2 t0) (iblk m c 3 t0) (iblk m c 4 t0) (iblk m c 5 t0) y := by
  have a := read7 c ((dats m 0 c).arrAt 7 cfg0.N)
  have b := (Cert.ReferenceIdeal.Value.blocks7 m c t0 (flush0_7 t0)).trans (Cert.ReferenceIdeal.Value.flushed7 m c t0)
  exact congrFun (a.symm.trans b) y
theorem read8 (c : Dev nD) (f : Buf (Elt Ideal) ((c : Thread nD τ).loc main_v48_2)) : ((cfg0.win 8).blk t0).view.read (Elt Ideal) f = f :=
  funext fun y => congrArg f (emb8 y)
theorem final8 (c : Dev nD) (y : S1024x1.Idx) : (dats m 0 c).arrAt 8 cfg0.N y
    = out0_8 (iblk m c 0 t0) (iblk m c 1 t0) (iblk m c 2 t0) (iblk m c 3 t0) (iblk m c 4 t0) (iblk m c 5 t0) y := by
  have a := read8 c ((dats m 0 c).arrAt 8 cfg0.N)
  have b := (Cert.ReferenceIdeal.Value.blocks8 m c t0 (flush0_8 t0)).trans (Cert.ReferenceIdeal.Value.flushed8 m c t0)
  exact congrFun (a.symm.trans b) y

variable (c : Dev nD) (hx : ∀ i, eabs (m ((c : Thread nD τ).loc main_arg0) i) ≤ Ideal.ofBits .f32 0x7F7F0000#32 ∨ eabs (m ((c : Thread nD τ).loc main_arg0) i) = ⊤)

theorem pair_eta {a b : ℕ} (y : (⟨2, ![a, b]⟩ : Shape).Idx) : ∃ (r : Fin a) (k : Fin b), y = ix2 r k :=
  ⟨y 0, y 1, by funext x; match x with | ⟨0, _⟩ => rfl | ⟨1, _⟩ => rfl⟩

include hx in
/-- The codes that the reference leaves. -/
theorem codes_eq : (dats m 0 c).arrAt 7 cfg0.N = fun y : S1024x3584.Idx => Spec.code (m ((c : Thread nD τ).loc main_arg0)) (y 0) (y 1) := by
  funext y
  rw [final7, out7_eq, iblk0, V_v27]
  obtain ⟨r, k, rfl⟩ := pair_eta y
  exact refCode_at _ hx r k

include hx in
/-- The scales that the reference leaves. -/
theorem scales_eq : (dats m 0 c).arrAt 8 cfg0.N = fun y : S1024x1.Idx => Spec.scale (m ((c : Thread nD τ).loc main_arg0)) (y 0) := by
  funext y
  rw [final8, out8_eq, iblk1, V_v24]
  obtain ⟨r, k, rfl⟩ := pair_eta y
  obtain rfl : k = 0 := Subsingleton.elim _ _
  exact refScale_at _ hx r

/-- The column scales as a row. -/
theorem colScale_at (s : Vec Ideal S18944 .f32) (n : Fin 18944) : shapeCast S1x18944 s shapeCasts_S18944_S1x18944 (ix2 0 n) = s (ix1 n) := by
  refine shapeCast_apply _ _ _ _ ?_
  show (S18944.rowMajor _).val = _
  rw [Shape.rowMajor_val_two, Shape.rowMajor_val_one]
  show n.val = 0 * 18944 + n.val
  omega

include hx in
/-- The result that the reference leaves. -/
theorem result_eq : (dats m 0 c).arrAt 6 cfg0.N = fun y : S1024x18944.Idx => Spec.y (m ((c : Thread nD τ).loc main_arg0)) (m ((c : Thread nD τ).loc main_arg1))
    (m ((c : Thread nD τ).loc main_arg2)) (m ((c : Thread nD τ).loc main_arg3)) (y 0) (y 1) := by
  funext y
  rw [final6, out6_eq, iblk0, iblk1, iblk2, iblk3, iblk4, iblk5, V_v27, V_v24, V_main_arg1, V_v37, V_v46, V_v47]
  obtain ⟨r, n, rfl⟩ := pair_eta y
  refine (pay3_at _ _ _ _ _ _ r n).trans ?_
  show _ = Spec.y _ _ _ _ r n
  rw [refScale_at _ hx, colScale_at]
  refine congrArg (· * _) (congrArg (· * _) (Finset.sum_congr rfl fun k _ => ?_))
  rw [refCode_at _ hx]
  refine congrArg (Spec.code _ r k * ·) ?_
  rw [pos1_at]
  refine (congrArg (fun z => ite _ _ (ite (z = k.val % 4) _ _)) (pos2_at _ _ _ _)).trans ?_
  unfold Spec.byte
  split
  · rfl
  · split <;> rfl

end Cert.ReferenceIdeal.Hand
-- ==== Proof.FPre.lean ====
/- What the stated condition on the arguments gives. -/
module
public import proofs.«01_k».proof.Proof.RPos
public import proofs.«01_k».proof.Pre_pre
@[expose] public section
set_option maxRecDepth 16384
noncomputable section
namespace Cert.PreFacts
open Cert.Pre_pre
open Idealize.ShloMosaic Idealize.ShloMosaic.Tactic
open Cert.KernelIdeal.Hand (eabs)

instance facts : Cert.Pre_pre.Facts where
  bcast_S8_S1x8x1_1 := by decide
  bcast_S112x18944_S112x1x18944_0_2 := by decide
  bcast_S_S1x8x1 := by decide
  bcast_S112x1x18944_S112x8x18944_0_1_2 := by decide
  bcast_S1x8x1_S112x8x18944_0_1_2 := by decide
  bcast_S_S112x8x18944 := by decide
  bitsLt_bf16_f32 := by decide
  bcast_S_S2x512x3584 := by decide

variable (x : Vec Ideal S2x512x3584 .bf16) (v : Vec Ideal S1792x18944 .i8) (w : Vec Ideal S112x18944 .i32) (s : Vec Ideal S18944 .f32)

theorem fst_eq : (Cert.Pre_pre.fn (F := Ideal) x v w s).1
    = cmpi .ne (Cert.ReferenceIdeal.Hand.posR w Cert.ReferenceIdeal.Hand.shR) (Cert.ReferenceIdeal.Hand.posR w Cert.ReferenceIdeal.Hand.shR2) := rfl

theorem snd_at (i : S2x512x3584.Idx) : (Cert.Pre_pre.fn (F := Ideal) x v w s).2 i
    = IntOp.ori (BitVec.ofBool (decide (eabs (x i) ≤ Ideal.ofBits .f32 0x7F7F0000#32))) (BitVec.ofBool (decide (eabs (x i) = Ideal.ofBits .f32 0x7F800000#32))) := rfl

/-- Where the stated condition holds, the two positions of every group differ. -/
theorem distinct (h : (Cert.Pre_pre.fn (F := Ideal) x v w s).1 = fun _ => 1#1) : Spec.Distinct w := by
  intro r n j hj
  have e := congrFun ((fst_eq x v w s).symm.trans h) (ix3 r ⟨j, hj⟩ n)
  rw [← Cert.ReferenceIdeal.Hand.pos1_at w r ⟨j, hj⟩ n, ← Cert.ReferenceIdeal.Hand.pos2_at w r ⟨j, hj⟩ n]
  intro he
  have he' := BitVec.eq_of_toNat_eq he
  have e' : BitVec.ofBool (Cert.ReferenceIdeal.Hand.posR w Cert.ReferenceIdeal.Hand.shR (ix3 r ⟨j, hj⟩ n) != Cert.ReferenceIdeal.Hand.posR w Cert.ReferenceIdeal.Hand.shR2 (ix3 r ⟨j, hj⟩ n)) = 1#1 := e
  rw [he', bne_self_eq_false] at e'
  exact absurd e' (by decide)

/-- Where the stated condition holds, every token is within the format's range or infinite. -/
theorem range (h : (Cert.Pre_pre.fn (F := Ideal) x v w s).2 = fun _ => 1#1) (i : S2x512x3584.Idx) :
    eabs (x i) ≤ Ideal.ofBits .f32 0x7F7F0000#32 ∨ eabs (x i) = ⊤ := by
  have e := (snd_at x v w s i).symm.trans (congrFun h i)
  rw [Cert.ReferenceIdeal.Hand.bits_inf] at e
  by_cases h1 : eabs (x i) ≤ Ideal.ofBits .f32 0x7F7F0000#32
  · exact .inl h1
  · by_cases h2 : eabs (x i) = ⊤
    · exact .inr h2
    · rw [decide_eq_false h1, decide_eq_false h2] at e
      exact absurd e (by decide)

end Cert.PreFacts
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.KTwin
public import proofs.«01_k».proof.Proof.KFinal
public import proofs.«01_k».proof.Proof.RFinal
public import proofs.«01_k».proof.Proof.FPre
public import Idealize.ShloMosaic.Adequacy
public import Idealize.ShloMosaic.Init

@[expose] public section

noncomputable section

namespace Cert.Proof

open Idealize.ShloMosaic Idealize.ShloMosaic.TcCoe Idealize.SL.Sem

/-- Both programs leave the codes, the scales and the products that the specification names. -/
theorem algebraic : Cert.algebraic_KernelIdeal_ReferenceIdeal_pre_pre := by
  intro m g m' g' hpre hag
  have hd : ∀ c : Dev Cert.KernelIdeal.nD, Spec.Distinct (m ((c : Thread Cert.KernelIdeal.nD Cert.KernelIdeal.τ).loc Cert.KernelIdeal.main_arg2)) :=
    fun c => Cert.PreFacts.distinct _ _ _ _ (hpre c).1
  refine ⟨fun c => Cert.KernelIdeal.Hand.Value.G6 m c, fun c => Cert.KernelIdeal.Hand.Value.G7 m c, fun c => Cert.KernelIdeal.Hand.Value.G8 m c,
    Cert.KernelIdeal.Hand.Value.run m g, ?_⟩
  refine (θ_run _ _ _).mono (fun r h c => ?_) (Cert.ReferenceIdeal.Value.run_blocks m' g')
  obtain ⟨h0, h1, h2, hk⟩ := h c
  obtain ⟨a0, a1, a2, a3⟩ := hag c
  have hx : ∀ i, Cert.KernelIdeal.Hand.eabs (m' ((c : Thread Cert.ReferenceIdeal.nD Cert.ReferenceIdeal.τ).loc Cert.ReferenceIdeal.main_arg0) i)
      ≤ Ideal.ofBits .f32 0x7F7F0000#32 ∨ Cert.KernelIdeal.Hand.eabs (m' ((c : Thread Cert.ReferenceIdeal.nD Cert.ReferenceIdeal.τ).loc Cert.ReferenceIdeal.main_arg0) i) = ⊤ := by
    intro i
    rw [show m' ((c : Thread Cert.ReferenceIdeal.nD Cert.ReferenceIdeal.τ).loc Cert.ReferenceIdeal.main_arg0) i
      = m ((c : Thread Cert.KernelIdeal.nD Cert.KernelIdeal.τ).loc Cert.KernelIdeal.main_arg0) i from congrFun a0 i]
    exact Cert.PreFacts.range _ _ _ _ (hpre c).2 i
  refine ⟨h0.trans ?_, h1.trans ?_, h2.trans ?_, hk⟩
  · refine (Cert.ReferenceIdeal.Hand.result_eq m' c hx).trans ((Cert.KernelIdeal.Hand.G6_eq m c (hd c)).trans ?_).symm
    rw [a0, a1, a2, a3]; rfl
  · refine (Cert.ReferenceIdeal.Hand.codes_eq m' c hx).trans ((Cert.KernelIdeal.Hand.G7_eq m c).trans ?_).symm
    rw [a0]; rfl
  · refine (Cert.ReferenceIdeal.Hand.scales_eq m' c hx).trans ((Cert.KernelIdeal.Hand.G8_eq m c).trans ?_).symm
    rw [a0]; rfl

theorem claim : Cert.Claim := ⟨Cert.Kernel.Gen.facts, Cert.KernelIdeal.Gen.facts, Cert.ReferenceIdeal.Gen.facts, Cert.PreFacts.facts,
  fun m ρ _ => Cert.Kernel.Hand.frame Bits m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  trivial,
  algebraic⟩

end Cert.Proof

end
